-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
-- ==== Pre_experts.lean ====
abbrev S162 : Shape := ⟨1, ![162]⟩
abbrev S1 : Shape := ⟨1, ![1]⟩
abbrev S82944x1024 : Shape := ⟨2, ![82944, 1024]⟩
abbrev S82944x1 : Shape := ⟨2, ![82944, 1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S162 : S_.BroadcastsInDim S162 (![] : Fin 0 → Fin S162.rank)

variable [Facts]

def fn {F : FTy → Type} [FloatOps F] (main_arg0 : IVec S162 32) (main_arg1 : IVec S1 32) (main_arg2 : FVec F S82944x1024 .f32) (main_arg3 : FVec F S82944x1 .f32) (main_arg4 : FVec F S2x32x1024x2048 .f32) (main_arg5 : FVec F S2x32x2048 .f32) (main_arg6 : FVec F S2x32x1024x1024 .f32) (main_arg7 : FVec F S2x32x1024 .f32) : IVec S162 1 :=
  let main_c : IVec S_ 32 := constantI S_ 32 0#32
  let main_v0 : IVec S162 32 := broadcastInDim S162 ![] bcast_S_S162 main_c
  let main_v1 : IVec S162 1 := cmpi .sge main_arg0 main_v0
  let main_c_0 : IVec S_ 32 := constantI S_ 32 32#32
  let main_v2 : IVec S162 32 := broadcastInDim S162 ![] bcast_S_S162 main_c_0
  let main_v3 : IVec S162 1 := cmpi .slt main_arg0 main_v2
  let main_v4 : IVec S162 1 := andi main_v1 main_v3
  main_v4
-- ==== Pre_finite.lean ====
abbrev S16384x4x192 : Shape := ⟨3, ![16384, 4, 192]⟩
abbrev S16640x4x192 : Shape := ⟨3, ![16640, 4, 192]⟩
abbrev S16640x4x128 : Shape := ⟨3, ![16640, 4, 128]⟩
abbrev S33024x4x192 : Shape := ⟨3, ![33024, 4, 192]⟩
abbrev S_ : Shape := ⟨0, ![]⟩

class Facts : Prop where
  concatenates_S16384x4x192_S16640x4x192_S33024x4x192_d0 : Shape.Concatenates [S16384x4x192, S16640x4x192] S33024x4x192 0
  bcast_S_S33024x4x192 : S_.BroadcastsInDim S33024x4x192 (![] : Fin 0 → Fin S33024x4x192.rank)

variable [Facts]

def fn {F : FTy → Type} [FloatOps F] (main_arg0 : FVec F S16384x4x192 .f32) (main_arg1 : FVec F S16640x4x192 .f32) (main_arg2 : FVec F S16640x4x128 .f32) : IVec S33024x4x192 1 :=
  let main_v0 : FVec F S33024x4x192 .f32 := (fun a b => concatenate S33024x4x192 0 [⟨S16384x4x192, a⟩, ⟨S16640x4x192, b⟩] concatenates_S16384x4x192_S16640x4x192_S33024x4x192_d0) main_arg0 main_arg1
  let main_v1 : FVec F S33024x4x192 .f32 := Host.absf main_v0
  let main_cst : FVec F S_ .f32 := constant S_ .f32 0x7F800000#32
  let main_v2 : FVec F S33024x4x192 .f32 := broadcastInDim S33024x4x192 ![] bcast_S_S33024x4x192 main_cst
  let main_v3 : IVec S33024x4x192 1 := cmpf .olt main_v1 main_v2
  main_v3
-- ==== Kernel.lean ====
abbrev S16384x4x192 : Shape := ⟨3, ![16384, 4, 192]⟩
abbrev S16640x4x192 : Shape := ⟨3, ![16640, 4, 192]⟩
abbrev S16640x4x128 : Shape := ⟨3, ![16640, 4, 128]⟩
abbrev S4x16384x192 : Shape := ⟨3, ![4, 16384, 192]⟩
abbrev S_ : Shape := ⟨0, ![]⟩
abbrev S4x16384x256 : Shape := ⟨3, ![4, 16384, 256]⟩
abbrev S4x16640x192 : Shape := ⟨3, ![4, 16640, 192]⟩
abbrev S4x16640x256 : Shape := ⟨3, ![4, 16640, 256]⟩
abbrev S4x16640x128 : Shape := ⟨3, ![4, 16640, 128]⟩
abbrev S16384x512 : Shape := ⟨2, ![16384, 512]⟩
abbrev S1x1024x256 : Shape := ⟨3, ![1, 1024, 256]⟩
abbrev S1x16640x256 : Shape := ⟨3, ![1, 16640, 256]⟩
abbrev S1024x128 : Shape := ⟨2, ![1024, 128]⟩
abbrev S2x1024x3328 : Shape := ⟨3, ![2, 1024, 3328]⟩
abbrev S2x1024x128 : Shape := ⟨3, ![2, 1024, 128]⟩
abbrev S1024x256 : Shape := ⟨2, ![1024, 256]⟩
abbrev S1x3328x256 : Shape := ⟨3, ![1, 3328, 256]⟩
abbrev S3328x256 : Shape := ⟨2, ![3328, 256]⟩
abbrev S1024x3328 : Shape := ⟨2, ![1024, 3328]⟩
abbrev S1x1024x3328 : Shape := ⟨3, ![1, 1024, 3328]⟩
abbrev S1024 : Shape := ⟨1, ![1024]⟩
abbrev S1024x1 : Shape := ⟨2, ![1024, 1]⟩
abbrev S1x1024x128 : Shape := ⟨3, ![1, 1024, 128]⟩
abbrev S1x256x256 : Shape := ⟨3, ![1, 256, 256]⟩
abbrev S256x256 : Shape := ⟨2, ![256, 256]⟩

abbrev nBuf : Space → Nat
  | .hbm => 26
  | .vmem => 10
  | .smem => 0
  | _ => 0

abbrev bufTy : (tb : Table) → Fin (tcTables nBuf tb) → BufTy
  | .hbm, ⟨0, _⟩ => ⟨S16384x4x192, .f32⟩
  | .hbm, ⟨1, _⟩ => ⟨S16640x4x192, .f32⟩
  | .hbm, ⟨2, _⟩ => ⟨S16640x4x128, .f32⟩
  | .hbm, ⟨3, _⟩ => ⟨S4x16384x192, .f32⟩
  | .hbm, ⟨4, _⟩ => ⟨S_, .i32⟩
  | .hbm, ⟨5, _⟩ => ⟨S_, .f32⟩
  | .hbm, ⟨6, _⟩ => ⟨S4x16384x256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x16384x256, .f32⟩
  | .hbm, ⟨13, _⟩ => ⟨S4x16384x256, .f32⟩
  | .hbm, ⟨14, _⟩ => ⟨S4x16384x256, .bf16⟩
  | .hbm, ⟨15, _⟩ => ⟨S4x16640x192, .f32⟩
  | .hbm, ⟨16, _⟩ => ⟨S_, .i32⟩
  | .hbm, ⟨17, _⟩ => ⟨S_, .f32⟩
  | .hbm, ⟨18, _⟩ => ⟨S4x16640x256, .f32⟩
  | .hbm, ⟨19, _⟩ => ⟨S4x16640x256, .bf16⟩
  | .hbm, ⟨20, _⟩ => ⟨S4x16640x128, .f32⟩
  | .hbm, ⟨21, _⟩ => ⟨S_, .f32⟩
  | .hbm, ⟨22, _⟩ => ⟨S4x16640x128, .f32⟩
  | .hbm, ⟨23, _⟩ => ⟨S4x16640x256, .f32⟩
  | .hbm, ⟨24, _⟩ => ⟨S4x16640x256, .bf16⟩
  | .hbm, ⟨25, _⟩ => ⟨S16384x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x16640x256, .bf16⟩
  | .local _ .vmem, ⟨3, _⟩ => ⟨S1x16640x256, .bf16⟩
  | .local _ .vmem, ⟨4, _⟩ => ⟨S1024x128, .bf16⟩
  | .local _ .vmem, ⟨5, _⟩ => ⟨S1024x128, .bf16⟩
  | .local _ .vmem, ⟨6, _⟩ => ⟨S2x1024x3328, .f32⟩
  | .local _ .vmem, ⟨7, _⟩ => ⟨S2x1024x128, .f32⟩
  | .local _ .vmem, ⟨8, _⟩ => ⟨S1024x128, .f32⟩
  | .local _ .vmem, ⟨9, _⟩ => ⟨S1024x256, .f32⟩
  | _, _ => ⟨S16384x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  c0_i32
@[reducible] def k0_t1_loop : Scf.Loop 32 :=
  let c0_i32_17 : BitVec 32 := 0#32
  let c2_i32 : BitVec 32 := 2#32
  let v25 : BitVec 32 := Scalar.addi c0_i32_17 c2_i32
  let c1_i32 : BitVec 32 := 1#32
  ⟨c0_i32_17, v25, c1_i32⟩
def k0_mult2 (k0_t1 : Fin k0_t1_loop.trips) : BitVec 32 :=
  let c2_i32_130 : BitVec 32 := 2#32
  let c0_i32_17 : BitVec 32 := 0#32
  let c1_i32 : BitVec 32 := 1#32
  let arg10 : BitVec 32 := Scf.iv c0_i32_17 c1_i32 k0_t1
  let v270 : BitVec 32 := Scalar.muli c2_i32_130 arg10
  let c1_i32_131 : BitVec 32 := 1#32
  let v271 : BitVec 32 := Scalar.addi v270 c1_i32_131
  let c3328_i32 : BitVec 32 := 3328#32
  let v272 : BitVec 32 := Scalar.muli v271 c3328_i32
  v272
def k0_off1 (k0_t1 : Fin k0_t1_loop.trips) (c1_i32_131 : BitVec 32) : Fin 3 → Nat :=
  let c0_132 : Index := 0#32
  let c2_i32_130 : BitVec 32 := 2#32
  let c0_i32_17 : BitVec 32 := 0#32
  let c1_i32 : BitVec 32 := 1#32
  let arg10 : BitVec 32 := Scf.iv c0_i32_17 c1_i32 k0_t1
  let v270 : BitVec 32 := Scalar.muli c2_i32_130 arg10
  let v271 : BitVec 32 := Scalar.addi v270 c1_i32_131
  let c3328_i32 : BitVec 32 := 3328#32
  let v272 : BitVec 32 := Scalar.muli v271 c3328_i32
  let v273 : BitVec 32 := v272
  let v274 : Index := Scalar.indexCast v273
  let c0_133 : Index := 0#32
  ![0, v274.toNat, 0]
def k0_mult3 (k0_t1 : Fin k0_t1_loop.trips) : BitVec 32 :=
  let c2_i32_141 : BitVec 32 := 2#32
  let c0_i32_17 : BitVec 32 := 0#32
  let c1_i32 : BitVec 32 := 1#32
  let arg10 : BitVec 32 := Scf.iv c0_i32_17 c1_i32 k0_t1
  let v288 : BitVec 32 := Scalar.muli c2_i32_141 arg10
  let c3328_i32_142 : BitVec 32 := 3328#32
  let v289 : BitVec 32 := Scalar.muli v288 c3328_i32_142
  v289
def k0_off2 (k0_t1 : Fin k0_t1_loop.trips) (c0_i32_158 : BitVec 32) : Fin 3 → Nat :=
  let c0_159 : Index := 0#32
  let c2_i32_141 : BitVec 32 := 2#32
  let c0_i32_17 : BitVec 32 := 0#32
  let c1_i32 : BitVec 32 := 1#32
  let arg10 : BitVec 32 := Scf.iv c0_i32_17 c1_i32 k0_t1
  let v288 : BitVec 32 := Scalar.muli c2_i32_141 arg10
  let c3328_i32_142 : BitVec 32 := 3328#32
  let v289 : BitVec 32 := Scalar.muli v288 c3328_i32_142
  let v290 : BitVec 32 := v289
  let v314 : BitVec 32 := Scalar.addi v290 c0_i32_158
  let v315 : Index := Scalar.indexCast v314
  let c0_160 : Index := 0#32
  ![0, v315.toNat, 0]
def k0_mult4 (k0_t1 : Fin k0_t1_loop.trips) : BitVec 32 :=
  let c2_i32_284 : BitVec 32 := 2#32
  let c0_i32_17 : BitVec 32 := 0#32
  let c1_i32 : BitVec 32 := 1#32
  let arg10 : BitVec 32 := Scf.iv c0_i32_17 c1_i32 k0_t1
  let v527 : BitVec 32 := Scalar.muli c2_i32_284 arg10
  let c2_i32_285 : BitVec 32 := 2#32
  let v528 : BitVec 32 := Scalar.addi v527 c2_i32_285
  let c3328_i32_286 : BitVec 32 := 3328#32
  let v529 : BitVec 32 := Scalar.muli v528 c3328_i32_286
  v529
def k0_mult5 (k0_t1 : Fin k0_t1_loop.trips) : BitVec 32 :=
  let c2_i32_297 : BitVec 32 := 2#32
  let c0_i32_17 : BitVec 32 := 0#32
  let c1_i32 : BitVec 32 := 1#32
  let arg10 : BitVec 32 := Scf.iv c0_i32_17 c1_i32 k0_t1
  let v545 : BitVec 32 := Scalar.muli c2_i32_297 arg10
  let c1_i32_298 : BitVec 32 := 1#32
  let v546 : BitVec 32 := Scalar.addi v545 c1_i32_298
  let c3328_i32_299 : BitVec 32 := 3328#32
  let v547 : BitVec 32 := Scalar.muli v546 c3328_i32_299
  v547
def k0_off3 (k0_t1 : Fin k0_t1_loop.trips) (c0_i32_315 : BitVec 32) : Fin 3 → Nat :=
  let c0_316 : Index := 0#32
  let c2_i32_297 : BitVec 32 := 2#32
  let c0_i32_17 : BitVec 32 := 0#32
  let c1_i32 : BitVec 32 := 1#32
  let arg10 : BitVec 32 := Scf.iv c0_i32_17 c1_i32 k0_t1
  let v545 : BitVec 32 := Scalar.muli c2_i32_297 arg10
  let c1_i32_298 : BitVec 32 := 1#32
  let v546 : BitVec 32 := Scalar.addi v545 c1_i32_298
  let c3328_i32_299 : BitVec 32 := 3328#32
  let v547 : BitVec 32 := Scalar.muli v546 c3328_i32_299
  let v548 : BitVec 32 := v547
  let v572 : BitVec 32 := Scalar.addi v548 c0_i32_315
  let v573 : Index := Scalar.indexCast v572
  let c0_317 : Index := 0#32
  ![0, v573.toNat, 0]
def k0_mult6 : BitVec 32 :=
  let c13312_i32 : BitVec 32 := 13312#32
  c13312_i32
def k0_off4 (c0_i32_33 : BitVec 32) : Fin 3 → Nat :=
  let c0_34 : Index := 0#32
  let c13312_i32 : BitVec 32 := 13312#32
  let v26 : BitVec 32 := c13312_i32
  let v50 : BitVec 32 := Scalar.addi v26 c0_i32_33
  let v51 : Index := Scalar.indexCast v50
  let c0_35 : Index := 0#32
  ![0, v51.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16640x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x4x192 : Shape := ⟨3, ![16384, 4, 192]⟩
abbrev S16640x4x192 : Shape := ⟨3, ![16640, 4, 192]⟩
abbrev S16640x4x128 : Shape := ⟨3, ![16640, 4, 128]⟩
abbrev S4x16384x16640 : Shape := ⟨3, ![4, 16384, 16640]⟩
abbrev S_ : Shape := ⟨0, ![]⟩
abbrev S4x16384 : Shape := ⟨2, ![4, 16384]⟩
abbrev S4x16384x1 : Shape := ⟨3, ![4, 16384, 1]⟩
abbrev S4x128x16384 : Shape := ⟨3, ![4, 128, 16384]⟩
abbrev S16384x4x128 : Shape := ⟨3, ![16384, 4, 128]⟩
abbrev S16384x512 : Shape := ⟨2, ![16384, 512]⟩

abbrev nBuf : Space → Nat
  | .hbm => 26
  | .vmem => 0
  | .smem => 0
  | _ => 0

abbrev bufTy : (tb : Table) → Fin (tcTables nBuf tb) → BufTy
  | .hbm, ⟨0, _⟩ => ⟨S16384x4x192, .f32⟩
  | .hbm, ⟨1, _⟩ => ⟨S16640x4x192, .f32⟩
  | .hbm, ⟨2, _⟩ => ⟨S16640x4x128, .f32⟩
  | .hbm, ⟨3, _⟩ => ⟨S4x16384x16640, .f32⟩
  | .hbm, ⟨4, _⟩ => ⟨S_, .f32⟩
  | .hbm, ⟨5, _⟩ => ⟨S_, .f32⟩
  | .hbm, ⟨6, _⟩ => ⟨S4x16384x16640, .f32⟩
  | .hbm, ⟨7, _⟩ => ⟨S4x16384x16640, .f32⟩
  | .hbm, ⟨8, _⟩ => ⟨S_, .f32⟩
  | .hbm, ⟨9, _⟩ => ⟨S4x16384, .f32⟩
  | .hbm, ⟨10, _⟩ => ⟨S_, .f32⟩
  | .hbm, ⟨11, _⟩ => ⟨S4x16384, .f32⟩
  | .hbm, ⟨12, _⟩ => ⟨S4x16384, .f32⟩
  | .hbm, ⟨13, _⟩ => ⟨S4x16384x1, .f32⟩
  | .hbm, ⟨14, _⟩ => ⟨S4x16384x16640, .f32⟩
  | .hbm, ⟨15, _⟩ => ⟨S4x16384x16640, .f32⟩
  | .hbm, ⟨16, _⟩ => ⟨S4x16384x16640, .f32⟩
  | .hbm, ⟨17, _⟩ => ⟨S_, .f32⟩
  | .hbm, ⟨18, _⟩ => ⟨S4x16384, .f32⟩
  | .hbm, ⟨19, _⟩ => ⟨S4x16384x1, .f32⟩
  | .hbm, ⟨20, _⟩ => ⟨S4x16384x16640, .f32⟩
  | .hbm, ⟨21, _⟩ => ⟨S4x16384x16640, .f32⟩
  | .hbm, ⟨22, _⟩ => ⟨S4x128x16384, .f32⟩
  | .hbm, ⟨23, _⟩ => ⟨S16384x4x128, .f32⟩
  | .hbm, ⟨24, _⟩ => ⟨S16384x512, .f32⟩
  | .hbm, ⟨25, _⟩ => ⟨S16384x512, .bf16⟩
  | _, _ => ⟨S16384x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S162 : Shape := ⟨1, ![162]⟩
abbrev S1 : Shape := ⟨1, ![1]⟩
abbrev S82944x1024 : Shape := ⟨2, ![82944, 1024]⟩
abbrev S82944x1 : Shape := ⟨2, ![82944, 1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x32x8x128x2 : Shape := ⟨5, ![2, 32, 8, 128, 2]⟩
abbrev S2x32x8x2x128 : Shape := ⟨5, ![2, 32, 8, 2, 128]⟩
abbrev S2x32x1x2048 : Shape := ⟨4, ![2, 32, 1, 2048]⟩
abbrev S2x32x1x1024 : Shape := ⟨4, ![2, 32, 1, 1024]⟩
abbrev S256x256 : Shape := ⟨2, ![256, 256]⟩
abbrev S_ : Shape := ⟨0, ![]⟩
abbrev S512x1024 : Shape := ⟨2, ![512, 1024]⟩
abbrev S512x1 : Shape := ⟨2, ![512, 1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x1024x256 : Shape := ⟨4, ![1, 1, 1024, 256]⟩
abbrev S1024x256 : Shape := ⟨2, ![1024, 256]⟩
abbrev S512x256 : Shape := ⟨2, ![512, 256]⟩
abbrev S1x1x1x256 : Shape := ⟨4, ![1, 1, 1, 256]⟩
abbrev S1x256 : Shape := ⟨2, ![1, 256]⟩
abbrev S512x128 : Shape := ⟨2, ![512, 128]⟩
abbrev S1x1024 : Shape := ⟨2, ![1, 1024]⟩

abbrev nBuf : Space → Nat
  | .hbm => 35
  | .vmem => 17
  | .smem => 2
  | _ => 0

abbrev bufTy : (tb : Table) → Fin (tcTables nBuf tb) → BufTy
  | .hbm, ⟨0, _⟩ => ⟨S82944x1024, .f32⟩
  | .hbm, ⟨1, _⟩ => ⟨S82944x1, .f32⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S2x32x8x128x2, .f32⟩
  | .hbm, ⟨7, _⟩ => ⟨S2x32x8x2x128, .f32⟩
  | .hbm, ⟨8, _⟩ => ⟨S2x32x1x2048, .f32⟩
  | .hbm, ⟨9, _⟩ => ⟨S2x32x1x1024, .f32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .bf16⟩
  | .hbm, ⟨30, _⟩ => ⟨S256x256, .bf16⟩
  | .hbm, ⟨31, _⟩ => ⟨S_, .bf16⟩
  | .hbm, ⟨32, _⟩ => ⟨S256x256, .bf16⟩
  | .hbm, ⟨33, _⟩ => ⟨S256x256, .bf16⟩
  | .hbm, ⟨34, _⟩ => ⟨S82944x1024, .bf16⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x1x1024x2048, .f32⟩
  | .local _ .vmem, ⟨5, _⟩ => ⟨S1x1x1024x2048, .f32⟩
  | .local _ .vmem, ⟨6, _⟩ => ⟨S256x256, .bf16⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x2048, .bf16⟩
  | .local _ .vmem, ⟨16, _⟩ => ⟨S1024x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S162 : Shape := ⟨1, ![162]⟩
abbrev S1 : Shape := ⟨1, ![1]⟩
abbrev S82944x1024 : Shape := ⟨2, ![82944, 1024]⟩
abbrev S82944x1 : Shape := ⟨2, ![82944, 1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S162x512x1024 : Shape := ⟨3, ![162, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S162x1 : Shape := ⟨2, ![162, 1]⟩
abbrev S162x1024x2048 : Shape := ⟨3, ![162, 1024, 2048]⟩
abbrev S162x512x2048 : Shape := ⟨3, ![162, 512, 2048]⟩
abbrev S1x32x2048 : Shape := ⟨3, ![1, 32, 2048]⟩
abbrev S32x2048 : Shape := ⟨2, ![32, 2048]⟩
abbrev S162x2048 : Shape := ⟨2, ![162, 2048]⟩
abbrev S162x1x2048 : Shape := ⟨3, ![162, 1, 2048]⟩
abbrev S1x32x1024x1024 : Shape := ⟨4, ![1, 32, 1024, 1024]⟩
abbrev S32x1024x1024 : Shape := ⟨3, ![32, 1024, 1024]⟩
abbrev S162x1024x1024 : Shape := ⟨3, ![162, 1024, 1024]⟩
abbrev S1x32x1024 : Shape := ⟨3, ![1, 32, 1024]⟩
abbrev S32x1024 : Shape := ⟨2, ![32, 1024]⟩
abbrev S162x1024 : Shape := ⟨2, ![162, 1024]⟩
abbrev S162x1x1024 : Shape := ⟨3, ![162, 1, 1024]⟩
abbrev S162x512x1 : Shape := ⟨3, ![162, 512, 1]⟩
abbrev S162x1x1 : Shape := ⟨3, ![162, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S162, .i32⟩
  | .hbm, ⟨1, _⟩ => ⟨S1, .i32⟩
  | .hbm, ⟨2, _⟩ => ⟨S82944x1024, .f32⟩
  | .hbm, ⟨3, _⟩ => ⟨S82944x1, .f32⟩
  | .hbm, ⟨4, _⟩ => ⟨S2x32x1024x2048, .f32⟩
  | .hbm, ⟨5, _⟩ => ⟨S2x32x2048, .f32⟩
  | .hbm, ⟨6, _⟩ => ⟨S2x32x1024x1024, .f32⟩
  | .hbm, ⟨7, _⟩ => ⟨S2x32x1024, .f32⟩
  | .hbm, ⟨8, _⟩ => ⟨S162x512x1024, .f32⟩
  | .hbm, ⟨9, _⟩ => ⟨S1x32x1024x2048, .f32⟩
  | .hbm, ⟨10, _⟩ => ⟨S32x1024x2048, .f32⟩
  | .hbm, ⟨11, _⟩ => ⟨S_, .i32⟩
  | .hbm, ⟨12, _⟩ => ⟨S162, .i32⟩
  | .hbm, ⟨13, _⟩ => ⟨S162, .i1⟩
  | .hbm, ⟨14, _⟩ => ⟨S_, .i32⟩
  | .hbm, ⟨15, _⟩ => ⟨S162, .i32⟩
  | .hbm, ⟨16, _⟩ => ⟨S162, .i32⟩
  | .hbm, ⟨17, _⟩ => ⟨S162, .i32⟩
  | .hbm, ⟨18, _⟩ => ⟨S162x1, .i32⟩
  | .hbm, ⟨19, _⟩ => ⟨S162x1024x2048, .f32⟩
  | .hbm, ⟨20, _⟩ => ⟨S162x512x2048, .f32⟩
  | .hbm, ⟨21, _⟩ => ⟨S1x32x2048, .f32⟩
  | .hbm, ⟨22, _⟩ => ⟨S32x2048, .f32⟩
  | .hbm, ⟨23, _⟩ => ⟨S_, .i32⟩
  | .hbm, ⟨24, _⟩ => ⟨S162, .i32⟩
  | .hbm, ⟨25, _⟩ => ⟨S162, .i1⟩
  | .hbm, ⟨26, _⟩ => ⟨S_, .i32⟩
  | .hbm, ⟨27, _⟩ => ⟨S162, .i32⟩
  | .hbm, ⟨28, _⟩ => ⟨S162, .i32⟩
  | .hbm, ⟨29, _⟩ => ⟨S162, .i32⟩
  | .hbm, ⟨30, _⟩ => ⟨S162x1, .i32⟩
  | .hbm, ⟨31, _⟩ => ⟨S162x2048, .f32⟩
  | .hbm, ⟨32, _⟩ => ⟨S162x1x2048, .f32⟩
  | .hbm, ⟨33, _⟩ => ⟨S162x512x2048, .f32⟩
  | .hbm, ⟨34, _⟩ => ⟨S162x512x2048, .f32⟩
  | .hbm, ⟨35, _⟩ => ⟨S162x512x1024, .f32⟩
  | .hbm, ⟨36, _⟩ => ⟨S_, .f32⟩
  | .hbm, ⟨37, _⟩ => ⟨S162x512x1024, .f32⟩
  | .hbm, ⟨38, _⟩ => ⟨S162x512x1024, .f32⟩
  | .hbm, ⟨39, _⟩ => ⟨S162x512x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S162x512x1024, .f32⟩
  | .hbm, ⟨44, _⟩ => ⟨S162x512x1024, .f32⟩
  | .hbm, ⟨45, _⟩ => ⟨S_, .f32⟩
  | .hbm, ⟨46, _⟩ => ⟨S162x512x1024, .f32⟩
  | .hbm, ⟨47, _⟩ => ⟨S162x512x1024, .f32⟩
  | .hbm, ⟨48, _⟩ => ⟨S_, .f32⟩
  | .hbm, ⟨49, _⟩ => ⟨S162x512x1024, .f32⟩
  | .hbm, ⟨50, _⟩ => ⟨S162x512x1024, .f32⟩
  | .hbm, ⟨51, _⟩ => ⟨S162x512x1024, .f32⟩
  | .hbm, ⟨52, _⟩ => ⟨S162x512x1024, .f32⟩
  | .hbm, ⟨53, _⟩ => ⟨S_, .f32⟩
  | .hbm, ⟨54, _⟩ => ⟨S162x512x1024, .f32⟩
  | .hbm, ⟨55, _⟩ => ⟨S162x512x1024, .f32⟩
  | .hbm, ⟨56, _⟩ => ⟨S_, .f32⟩
  | .hbm, ⟨57, _⟩ => ⟨S162x512x1024, .f32⟩
  | .hbm, ⟨58, _⟩ => ⟨S162x512x1024, .f32⟩
  | .hbm, ⟨59, _⟩ => ⟨S162x512x1024, .f32⟩
  | .hbm, ⟨60, _⟩ => ⟨S_, .f32⟩
  | .hbm, ⟨61, _⟩ => ⟨S162x512x1024, .f32⟩
  | .hbm, ⟨62, _⟩ => ⟨S162x512x1024, .f32⟩
  | .hbm, ⟨63, _⟩ => ⟨S162x512x1024, .f32⟩
  | .hbm, ⟨64, _⟩ => ⟨S1x32x1024x1024, .f32⟩
  | .hbm, ⟨65, _⟩ => ⟨S32x1024x1024, .f32⟩
  | .hbm, ⟨66, _⟩ => ⟨S_, .i32⟩
  | .hbm, ⟨67, _⟩ => ⟨S162, .i32⟩
  | .hbm, ⟨68, _⟩ => ⟨S162, .i1⟩
  | .hbm, ⟨69, _⟩ => ⟨S_, .i32⟩
  | .hbm, ⟨70, _⟩ => ⟨S162, .i32⟩
  | .hbm, ⟨71, _⟩ => ⟨S162, .i32⟩
  | .hbm, ⟨72, _⟩ => ⟨S162, .i32⟩
  | .hbm, ⟨73, _⟩ => ⟨S162x1, .i32⟩
  | .hbm, ⟨74, _⟩ => ⟨S162x1024x1024, .f32⟩
  | .hbm, ⟨75, _⟩ => ⟨S162x512x1024, .f32⟩
  | .hbm, ⟨76, _⟩ => ⟨S1x32x1024, .f32⟩
  | .hbm, ⟨77, _⟩ => ⟨S32x1024, .f32⟩
  | .hbm, ⟨78, _⟩ => ⟨S_, .i32⟩
  | .hbm, ⟨79, _⟩ => ⟨S162, .i32⟩
  | .hbm, ⟨80, _⟩ => ⟨S162, .i1⟩
  | .hbm, ⟨81, _⟩ => ⟨S_, .i32⟩
  | .hbm, ⟨82, _⟩ => ⟨S162, .i32⟩
  | .hbm, ⟨83, _⟩ => ⟨S162, .i32⟩
  | .hbm, ⟨84, _⟩ => ⟨S162, .i32⟩
  | .hbm, ⟨85, _⟩ => ⟨S162x1, .i32⟩
  | .hbm, ⟨86, _⟩ => ⟨S162x1024, .f32⟩
  | .hbm, ⟨87, _⟩ => ⟨S162x1x1024, .f32⟩
  | .hbm, ⟨88, _⟩ => ⟨S162x512x1024, .f32⟩
  | .hbm, ⟨89, _⟩ => ⟨S162x512x1024, .f32⟩
  | .hbm, ⟨90, _⟩ => ⟨S162x512x1, .f32⟩
  | .hbm, ⟨91, _⟩ => ⟨S162x512x1024, .f32⟩
  | .hbm, ⟨92, _⟩ => ⟨S162x512x1024, .f32⟩
  | .hbm, ⟨93, _⟩ => ⟨S162, .i32⟩
  | .hbm, ⟨94, _⟩ => ⟨S162x1x1, .i32⟩
  | .hbm, ⟨95, _⟩ => ⟨S_, .i32⟩
  | .hbm, ⟨96, _⟩ => ⟨S162x1x1, .i32⟩
  | .hbm, ⟨97, _⟩ => ⟨S162x1x1, .i1⟩
  | .hbm, ⟨98, _⟩ => ⟨S_, .f32⟩
  | .hbm, ⟨99, _⟩ => ⟨S_, .f32⟩
  | .hbm, ⟨100, _⟩ => ⟨S162x512x1024, .i1⟩
  | .hbm, ⟨101, _⟩ => ⟨S162x512x1024, .f32⟩
  | .hbm, ⟨102, _⟩ => ⟨S162x512x1024, .f32⟩
  | .hbm, ⟨103, _⟩ => ⟨S82944x1024, .f32⟩
  | .hbm, ⟨104, _⟩ => ⟨S82944x1024, .bf16⟩
  | _, _ => ⟨S162, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]
-- ==== Proof.Spec.lean ====
module

public import proofs.«01_k».proof.Proof.Gen.KernelIdeal.Skeleton
public import Idealize.ShloMosaic.Lib.ValueIdxCore

@[expose] public section

set_option maxRecDepth 16384

noncomputable section

/-! What one block of the attention call computes, as pure functions of its three input blocks: the keys and the values are
    taken in five chunks of 3328 rows, and each chunk folds its scores and its values into a running row maximum and a
    running weighted sum. The definitions follow the call's operations and hold for every float instance. -/

namespace Cert.KernelIdeal.Flash

open Cert.KernelIdeal Cert.KernelIdeal.Gen
open Idealize.ShloMosaic Idealize.ShloMosaic.ValueIdx

variable {F : FTy → Type} [FloatOps F]

/-- The 3328 key rows from row `o` on. -/
def keysAt (x : Vec F S1x16640x256 .bf16) (o : ℕ) : Vec F S1x3328x256 .bf16 :=
  fun i => x (ix3 (n0 := 1) (n1 := 16640) (n2 := 256) 0 (Fin.ofNat 16640 (o + (i 1).val)) (i 2))

/-- The 256 value rows from row `o` on. -/
def valsAt (x : Vec F S1x16640x256 .bf16) (o : ℕ) : Vec F S1x256x256 .bf16 :=
  fun i => x (ix3 (n0 := 1) (n1 := 16640) (n2 := 256) 0 (Fin.ofNat 16640 (o + (i 1).val)) (i 2))

/-- The 128 columns of a chunk's scores from column `o` on. -/
def colsAt (s : Vec F S1x1024x3328 .f32) (o : ℕ) : Vec F S1x1024x128 .f32 :=
  fun i => s (ix3 (n0 := 1) (n1 := 1024) (n2 := 3328) 0 (i 1) (Fin.ofNat 3328 (o + (i 2).val)))

/-- One 256-row step of a chunk: the weights of two 128-column blocks of scores times 256 value rows, added to the sum. -/
def subStep (m : FVec F S1024x128 .f32) (a0 a1 : Vec F S1x1024x128 .f32) (v : Vec F S1x256x256 .bf16) (acc : FVec F S1024x256 .f32) :
    FVec F S1024x256 .f32 :=
  addf acc (matmul dot_S1024x256_S256x256_S1024x256_1_0_0_1_n_n none
    (concatenate S1024x256 1
      [⟨S1024x128, truncf .bf16 (exp2 (subf (shapeCast S1024x128 a0 shapeCasts_S1x1024x128_S1024x128) m)) bitsLt_bf16_f32⟩,
       ⟨S1024x128, truncf .bf16 (exp2 (subf (shapeCast S1024x128 a1 shapeCasts_S1x1024x128_S1024x128) m)) bitsLt_bf16_f32⟩]
      concatenates_S1024x128_S1024x128_S1024x256_d1)
    (shapeCast S256x256 v shapeCasts_S1x256x256_S256x256) (constant S1024x256 .f32 0x00000000#32))

/-- The first `n` such steps of a chunk whose scores are read by column offset (`a`) and whose values by step (`v`). -/
def subSteps (m : FVec F S1024x128 .f32) (a : ℕ → Vec F S1x1024x128 .f32) (v : ℕ → Vec F S1x256x256 .bf16) (acc : FVec F S1024x256 .f32) :
    ℕ → FVec F S1024x256 .f32
  | 0 => acc
  | n + 1 => subStep m (a (256 * n)) (a (256 * n + 128)) (v n) (subSteps m a v acc n)

theorem subSteps_congr (m : FVec F S1024x128 .f32) (a : ℕ → Vec F S1x1024x128 .f32) (v v' : ℕ → Vec F S1x256x256 .bf16)
    (acc : FVec F S1024x256 .f32) (n : ℕ) (h : ∀ k < n, v k = v' k) : subSteps m a v acc n = subSteps m a v' acc n := by
  induction n with
  | zero => rfl
  | succ n ih => rw [subSteps, subSteps, ih fun k hk => h k (by omega), h n (by omega)]

/-- The row maximum after a chunk. -/
def newMax (mo : Vec F S1024x128 .f32) (c : Vec F S1x1024x128 .f32) : FVec F S1024x128 .f32 := k0_pay6 mo c

/-- The sum after a chunk: the old one rescaled to the new maximum, and the chunk's thirteen steps. -/
def newSum (mo : Vec F S1024x128 .f32) (c : Vec F S1x1024x128 .f32) (acc : Vec F S1024x256 .f32)
    (a : ℕ → Vec F S1x1024x128 .f32) (v : ℕ → Vec F S1x256x256 .bf16) : FVec F S1024x256 .f32 :=
  shapeCast S1024x256 (subSteps (newMax mo c) a v (mulf (k0_pay8 mo c) acc) 13) shapeCasts_S1024x256_S1024x256

theorem newSum_congr (mo : Vec F S1024x128 .f32) (c : Vec F S1x1024x128 .f32) (acc : Vec F S1024x256 .f32)
    (a : ℕ → Vec F S1x1024x128 .f32) (v v' : ℕ → Vec F S1x256x256 .bf16) (h : ∀ k < 13, v k = v' k) :
    newSum mo c acc a v = newSum mo c acc a v' := by
  rw [newSum, newSum, subSteps_congr _ _ _ _ _ _ h]

/-- The first of a trip's two chunks, over its loads. -/
theorem first_eq (mo : Vec F S1024x128 .f32) (c : Vec F S1x1024x128 .f32) (acc : Vec F S1024x256 .f32)
    (a : ℕ → Vec F S1x1024x128 .f32) (v : ℕ → Vec F S1x256x256 .bf16) :
    (let m := k0_pay6 mo c
     k0_pay18 m (k0_pay17 m (k0_pay15 m (k0_pay13 m (k0_pay11 m (k0_pay9 m (k0_pay8 mo c) acc (a 0) (a 128) (v 0) (a 256) (a 384) (v 1))
      (k0_pay10 (a 512)) (a 640) (v 2) (a 768) (a 896) (v 3)) (k0_pay12 m (a 1024)) (a 1152) (v 4) (a 1280) (a 1408) (v 5))
      (k0_pay14 m (a 1536) (a 1664)) (v 6) (a 1792) (a 1920) (v 7)) (k0_pay16 m (a 2048) (a 2176)) (v 8) (a 2304) (a 2432) (v 9)
      (a 2560) (a 2688) (v 10)) (a 2816) (a 2944) (v 11) (a 3072) (a 3200) (v 12)) = newSum mo c acc a v := rfl

/-- The second, -/
theorem second_eq (mo : Vec F S1024x128 .f32) (c : Vec F S1x1024x128 .f32) (acc : Vec F S1024x256 .f32)
    (a : ℕ → Vec F S1x1024x128 .f32) (v : ℕ → Vec F S1x256x256 .bf16) :
    (let m := k0_pay22 mo c
     k0_pay43 (k0_pay35 m (k0_pay34 m (k0_pay31 m (k0_pay29 m (k0_pay27 m (k0_pay25 m (k0_pay24 mo c acc) (a 0) (a 128) (v 0) (a 256) (a 384) (v 1))
      (k0_pay26 m (a 512)) (a 640) (v 2) (a 768) (a 896) (v 3)) (k0_pay28 m (a 1024)) (a 1152) (v 4) (a 1280) (a 1408) (v 5))
      (k0_pay30 m (a 1536) (a 1664)) (v 6) (a 1792) (a 1920) (v 7)) (k0_pay32 m (a 2048) (a 2176)) (k0_pay33 (v 8)) (a 2304) (a 2432) (v 9)
      (a 2560) (a 2688) (v 10)) (a 2816) (a 2944) (v 11)) (k0_pay36 m (a 3072) (a 3200)) (v 12)) = newSum mo c acc a v := rfl

/-- and the fifth chunk, after the loop. -/
theorem last_eq (mo : Vec F S1024x128 .f32) (c : Vec F S1x1024x128 .f32) (acc : Vec F S1024x256 .f32)
    (a : ℕ → Vec F S1x1024x128 .f32) (v : ℕ → Vec F S1x256x256 .bf16) :
    (let m := k0_pay44 mo c
     k0_pay1 (k0_pay56 m (k0_pay54 m (k0_pay53 m (k0_pay50 m (k0_pay48 m (k0_pay46 mo c acc (a 0) (a 128) (v 0))
      (k0_pay47 mo c (a 256)) (a 384) (v 1) (a 512) (a 640) (v 2)) (k0_pay49 m (a 768) (a 896)) (v 3) (a 1024) (a 1152) (v 4))
      (k0_pay51 m (a 1280) (a 1408)) (k0_pay52 (v 5)) (a 1536) (a 1664) (v 6) (a 1792) (a 1920) (v 7))
      (a 2048) (a 2176) (v 8) (a 2304) (a 2432) (v 9)) (k0_pay55 m (a 2560)) (a 2688) (v 10) (a 2816) (a 2944) (v 11))
      (k0_pay57 m (a 3072)) (k0_pay58 m (a 3200)) (v 12)) = newSum mo c acc a v := rfl

/-- The scores of chunk `j`, -/
def score (x0 : Vec F S1x1024x256 .bf16) (x1 : Vec F S1x16640x256 .bf16) (j : ℕ) : Vec F S1x1024x3328 .f32 :=
  k0_pay4 (k0_pay39 x0) (keysAt x1 (3328 * j))
/-- and their row maxima, over 128 lanes. -/
def scoreMax (x0 : Vec F S1x1024x256 .bf16) (x1 : Vec F S1x16640x256 .bf16) (j : ℕ) : Vec F S1x1024x128 .f32 :=
  k0_pay5 (k0_pay39 x0) (keysAt x1 (3328 * j))

/-- The running maximum before chunk `j`, -/
def runMax (x0 : Vec F S1x1024x256 .bf16) (x1 : Vec F S1x16640x256 .bf16) : ℕ → Vec F S1024x128 .f32
  | 0 => k0_pay37
  | j + 1 => k0_pay7 (runMax x0 x1 j) (scoreMax x0 x1 j)

/-- and the running sum. -/
def runSum (x0 : Vec F S1x1024x256 .bf16) (x1 x2 : Vec F S1x16640x256 .bf16) : ℕ → Vec F S1024x256 .f32
  | 0 => k0_pay38
  | j + 1 => newSum (runMax x0 x1 j) (scoreMax x0 x1 j) (runSum x0 x1 x2 j) (colsAt (score x0 x1 j)) fun n => valsAt x2 (3328 * j + 256 * n)

/-- The left and the right 128 columns of the sum. -/
def leftCols (x : Vec F S1024x256 .f32) : Vec F S1024x128 .f32 :=
  fun i => x (ix2 (n0 := 1024) (n1 := 256) (i 0) (Fin.ofNat 256 (i 1).val))
def rightCols (x : Vec F S1024x256 .f32) : Vec F S1024x128 .f32 :=
  fun i => x (ix2 (n0 := 1024) (n1 := 256) (i 0) (Fin.ofNat 256 (128 + (i 1).val)))

/-- The block the call writes: the weighted sums over the sum of the weights. -/
def blockOut (x0 : Vec F S1x1024x256 .bf16) (x1 x2 : Vec F S1x16640x256 .bf16) : Vec F S1024x128 .bf16 :=
  k0_pay2 (leftCols (runSum x0 x1 x2 5)) (rightCols (runSum x0 x1 x2 5))

end Cert.KernelIdeal.Flash
-- ==== Proof.Run.lean ====
module

public import proofs.«01_k».proof.Proof.Gen.KernelIdeal.Frame
public import proofs.«01_k».proof.Proof.Gen.KernelIdeal.Loops

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body of the attention call, run once over symbolic memrefs: from the three input blocks `x0 x1 x2`
    and any contents of the output block and of the four scratch buffers, it ends with the inputs as they were
    and the output block written over by the pieces `L5`, a function of what the scratch held (the run finds it). -/
def kernelRun (c : Dev nD) (i : grid0.Coords) (arg2 : Memref sig .tc .vmem S1x1024x256 .bf16) (harg2 : arg2.IsWhole) (arg3 : Memref sig .tc .vmem S1x16640x256 .bf16) (harg3 : arg3.IsWhole) (arg4 : Memref sig .tc .vmem S1x16640x256 .bf16) (harg4 : arg4.IsWhole) (arg5 : Memref sig .tc .vmem S1024x128 .bf16) (harg5 : arg5.IsWhole) (arg6 : Memref sig .tc .vmem S2x1024x3328 .f32) (harg6 : arg6.IsWhole) (arg7 : Memref sig .tc .vmem S2x1024x128 .f32) (harg7 : arg7.IsWhole) (arg8 : Memref sig .tc .vmem S1024x128 .f32) (harg8 : arg8.IsWhole) (arg9 : Memref sig .tc .vmem S1024x256 .f32) (harg9 : arg9.IsWhole)
    (x0 : Vec F S1x1024x256 .bf16) (x1 : Vec F S1x16640x256 .bf16) (x2 : Vec F S1x16640x256 .bf16) :
    { L5 : BufTy.Contents (Elt F) arg6.view.ty → BufTy.Contents (Elt F) arg7.view.ty → BufTy.Contents (Elt F) arg8.view.ty →
        BufTy.Contents (Elt F) arg9.view.ty → List (View.Piece (Elt F) S1024x128 .bf16) //
      ∀ (E : Set ℕ) (K : PUnit → sProp 𝕄) (f5 : BufTy.Contents (Elt F) arg5.view.ty) (f6 : BufTy.Contents (Elt F) arg6.view.ty)
        (f7 : BufTy.Contents (Elt F) arg7.view.ty) (f8 : BufTy.Contents (Elt F) arg8.view.ty) (f9 : BufTy.Contents (Elt F) arg9.view.ty),
        iprop(owns (c : Thread nD τ) arg2 fullShare x0 ∗ owns (c : Thread nD τ) arg3 fullShare x1 ∗ owns (c : Thread nD τ) arg4 fullShare x2
            ∗ (arg5.view.loc (c : Thread nD τ) ↦[arg5.view.set]{fullShare} f5)
            ∗ (arg6.view.loc (c : Thread nD τ) ↦[arg6.view.set]{fullShare} f6) ∗ (arg7.view.loc (c : Thread nD τ) ↦[arg7.view.set]{fullShare} f7)
            ∗ (arg8.view.loc (c : Thread nD τ) ↦[arg8.view.set]{fullShare} f8) ∗ (arg9.view.loc (c : Thread nD τ) ↦[arg9.view.set]{fullShare} f9)
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) f5 (L5 f6 f7 f8 f9))
                ∗ (∃ d, owns (c : Thread nD τ) arg6 fullShare d) ∗ (∃ d, owns (c : Thread nD τ) arg7 fullShare d)
                ∗ (∃ d, owns (c : Thread nD τ) arg8 fullShare d) ∗ (∃ d, owns (c : Thread nD τ) arg9 fullShare d)) -∗ K ⟨⟩))
          ⊢ wp frame (wpE (defs₀ (F := F)) Variants.none c none) E (cc0_flash i arg2 harg2 arg3 harg3 arg4 harg4 arg5 harg5 arg6 harg6 arg7 harg7 arg8 harg8 arg9 harg9) K } := by
  refine ⟨?_, fun E K f5 f6 f7 f8 f9 => ?run⟩
  case run =>
    simp only [cc0_flash_eq_skeleton]; unfold cc0_flash_skel
    unfold owns
    iintro ⟨⟨%g2, %hg2, H2⟩, ⟨%g3, %hg3, H3⟩, ⟨%g4, %hg4, H4⟩, H5, H6, H7, H8, H9, Hk⟩
    obtain rfl := harg2.eq_unread hg2; obtain rfl := harg3.eq_unread hg3; obtain rfl := harg4.eq_unread hg4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.KernelIdeal.Flash

end
-- ==== Proof.Loop.lean ====
module

public import proofs.«01_k».proof.Proof.Spec
public import proofs.«01_k».proof.Proof.Run
public import Idealize.ShloMosaic.Lib.WritesUnit
public import Idealize.ShloMosaic.Lib.VecWindow

@[expose] public section

set_option maxRecDepth 16384

noncomputable section

/-! What the four scratch buffers hold from trip to trip of the loop: the scores and the row maxima of the next chunk, the
    running maximum and the running sum of the chunks before it (Spec.lean's `score`, `scoreMax`, `runMax`, `runSum`). -/

namespace Cert.KernelIdeal.Flash

open Cert.KernelIdeal Cert.KernelIdeal.Gen
open Idealize.ShloMosaic Idealize.ShloMosaic.TcCoe Idealize.ShloMosaic.Tactic Idealize.ShloMosaic.ValueIdx

variable {F : FTy → Type} [FloatOps F]

section Loads

variable {sig : RefSig} {κ : Kind} {sp : Space}

/-- A load of rows of the keys reads `keysAt` from its row offset on. -/
theorem load_keys (m : Memref sig κ sp S1x16640x256 .bf16) (h : m.IsWhole) (x : Vec F S1x16640x256 .bf16) (off : Fin 3 → ℕ)
    (inb : ∀ a, off a + S1x3328x256.size a ≤ S1x16640x256.size a) :
    m.view.readAt (Elt F) (Rect.unit (s := S1x16640x256) off ![1, 3328, 256] inb).toLoadRect (h.unread x) = keysAt x (off 1) := by
  funext i
  rw [View.readAt_apply, h.read_unread, keysAt]
  have h0 := inb 0; have h1 := inb 1; have h2 := inb 2
  have hi0 : (i 0).val < 1 := (i 0).isLt
  have hi : (i 1).val < 3328 := (i 1).isLt
  change off 0 + 1 ≤ 1 at h0; change off 1 + 3328 ≤ 16640 at h1; change off 2 + 256 ≤ 256 at h2
  refine congrArg x (funext fun a => Fin.ext ?_)
  match a with
  | ⟨0, _⟩ => show off 0 + 1 * (i 0).val = 0; omega
  | ⟨1, _⟩ => show off 1 + 1 * (i 1).val = (off 1 + (i 1).val) % 16640; omega
  | ⟨2, _⟩ => show off 2 + 1 * (i 2).val = (i 2).val; omega

/-- A load of rows of the values reads `valsAt` from its row offset on. -/
theorem load_vals (m : Memref sig κ sp S1x16640x256 .bf16) (h : m.IsWhole) (x : Vec F S1x16640x256 .bf16) (off : Fin 3 → ℕ)
    (inb : ∀ a, off a + S1x256x256.size a ≤ S1x16640x256.size a) :
    m.view.readAt (Elt F) (Rect.unit (s := S1x16640x256) off ![1, 256, 256] inb).toLoadRect (h.unread x) = valsAt x (off 1) := by
  funext i
  rw [View.readAt_apply, h.read_unread, valsAt]
  have h0 := inb 0; have h1 := inb 1; have h2 := inb 2
  have hi0 : (i 0).val < 1 := (i 0).isLt
  have hi : (i 1).val < 256 := (i 1).isLt
  change off 0 + 1 ≤ 1 at h0; change off 1 + 256 ≤ 16640 at h1; change off 2 + 256 ≤ 256 at h2
  refine congrArg x (funext fun a => Fin.ext ?_)
  match a with
  | ⟨0, _⟩ => show off 0 + 1 * (i 0).val = 0; omega
  | ⟨1, _⟩ => show off 1 + 1 * (i 1).val = (off 1 + (i 1).val) % 16640; omega
  | ⟨2, _⟩ => show off 2 + 1 * (i 2).val = (i 2).val; omega

/-- Slot `b` of the score buffer holds `s`. -/
def ScoreSlot (v : View sig κ sp S2x1024x3328 .f32) (f : v.ty.Contents (Elt F)) (b : Fin 2) (s : Vec F S1x1024x3328 .f32) : Prop :=
  ∀ i : S1x1024x3328.Idx, v.read (Elt F) f (ix3 (n0 := 2) (n1 := 1024) (n2 := 3328) b (i 1) (i 2)) = s i

/-- Slot `b` of the buffer of row maxima holds `s`. -/
def MaxSlot (v : View sig κ sp S2x1024x128 .f32) (f : v.ty.Contents (Elt F)) (b : Fin 2) (s : Vec F S1x1024x128 .f32) : Prop :=
  ∀ i : S1x1024x128.Idx, v.read (Elt F) f (ix3 (n0 := 2) (n1 := 1024) (n2 := 128) b (i 1) (i 2)) = s i

/-- A load of 128 columns of a slot of the score buffer. -/
theorem load_cols (v : View sig κ sp S2x1024x3328 .f32) (f : v.ty.Contents (Elt F)) (b : Fin 2) (s : Vec F S1x1024x3328 .f32)
    (h : ScoreSlot v f b s) (o : ℕ) (inb : ∀ a, (![b.val, 0, o] : Fin 3 → ℕ) a + S1x1024x128.size a ≤ S2x1024x3328.size a) :
    v.readAt (Elt F) (Rect.unit (s := S2x1024x3328) ![b.val, 0, o] ![1, 1024, 128] inb).toLoadRect f = colsAt s o := by
  funext i
  have h2 := inb 2
  change o + 128 ≤ 3328 at h2
  have hi0 : (i 0).val < 1 := (i 0).isLt
  have hi : (i 2).val < 128 := (i 2).isLt
  rw [View.readAt_apply, colsAt, ← h]
  refine congrArg (v.read (Elt F) f) (funext fun a => Fin.ext ?_)
  match a with
  | ⟨0, _⟩ => show b.val + 1 * (i 0).val = b.val; omega
  | ⟨1, _⟩ => show 0 + 1 * (i 1).val = (i 1).val; omega
  | ⟨2, _⟩ => show o + 1 * (i 2).val = (o + (i 2).val) % 3328; omega

/-- A load of a slot of the buffer of row maxima. -/
theorem load_max (v : View sig κ sp S2x1024x128 .f32) (f : v.ty.Contents (Elt F)) (b : Fin 2) (s : Vec F S1x1024x128 .f32)
    (h : MaxSlot v f b s) (inb : ∀ a, (![b.val, 0, 0] : Fin 3 → ℕ) a + S1x1024x128.size a ≤ S2x1024x128.size a) :
    v.readAt (Elt F) (Rect.unit (s := S2x1024x128) ![b.val, 0, 0] ![1, 1024, 128] inb).toLoadRect f = s := by
  funext i
  have hi0 : (i 0).val < 1 := (i 0).isLt
  rw [View.readAt_apply, ← h i]
  refine congrArg (v.read (Elt F) f) (funext fun a => Fin.ext ?_)
  match a with
  | ⟨0, _⟩ => show b.val + 1 * (i 0).val = b.val; omega
  | ⟨1, _⟩ => show 0 + 1 * (i 1).val = (i 1).val; omega
  | ⟨2, _⟩ => show 0 + 1 * (i 2).val = (i 2).val; omega

/-- A slot holds what the last store of it wrote, -/
theorem scoreSlot_cons (v : View sig κ sp S2x1024x3328 .f32) (f : v.ty.Contents (Elt F)) (b : Fin 2) (s : Vec F S1x1024x3328 .f32)
    (L : List (View.Piece (Elt F) S2x1024x3328 .f32))
    (inb : ∀ a, (![b.val, 0, 0] : Fin 3 → ℕ) a + S1x1024x3328.size a ≤ S2x1024x3328.size a) :
    ScoreSlot v (v.writes (Elt F) f (⟨Rect.unit (s := S2x1024x3328) ![b.val, 0, 0] S1x1024x3328.size inb, s⟩ :: L)) b s := fun i =>
  View.read_writes_cons_unit_of_mem v f inb s L _ i rfl fun a => by
    have hi0 : (i 0).val < 1 := (i 0).isLt
    match a with
    | ⟨0, _⟩ => show b.val = b.val + (i 0).val; omega
    | ⟨1, _⟩ => show (i 1).val = 0 + (i 1).val; omega
    | ⟨2, _⟩ => show (i 2).val = 0 + (i 2).val; omega

/-- and a store of the other slot leaves it. -/
theorem scoreSlot_skip (v : View sig κ sp S2x1024x3328 .f32) (f : v.ty.Contents (Elt F)) (b b' : Fin 2) (hb : b ≠ b') (s s' : Vec F S1x1024x3328 .f32)
    (L : List (View.Piece (Elt F) S2x1024x3328 .f32))
    (inb : ∀ a, (![b'.val, 0, 0] : Fin 3 → ℕ) a + S1x1024x3328.size a ≤ S2x1024x3328.size a) (h : ScoreSlot v (v.writes (Elt F) f L) b s) :
    ScoreSlot v (v.writes (Elt F) f (⟨Rect.unit (s := S2x1024x3328) ![b'.val, 0, 0] S1x1024x3328.size inb, s'⟩ :: L)) b s := fun i =>
  (View.read_writes_cons_unit_of_not_mem v f inb s' L _ rfl 0 (by
    show b.val < b'.val ∨ b'.val + 1 ≤ b.val
    have : b.val ≠ b'.val := fun e => hb (Fin.ext e)
    omega)).trans (h i)

theorem maxSlot_cons (v : View sig κ sp S2x1024x128 .f32) (f : v.ty.Contents (Elt F)) (b : Fin 2) (s : Vec F S1x1024x128 .f32)
    (L : List (View.Piece (Elt F) S2x1024x128 .f32))
    (inb : ∀ a, (![b.val, 0, 0] : Fin 3 → ℕ) a + S1x1024x128.size a ≤ S2x1024x128.size a) :
    MaxSlot v (v.writes (Elt F) f (⟨Rect.unit (s := S2x1024x128) ![b.val, 0, 0] S1x1024x128.size inb, s⟩ :: L)) b s := fun i =>
  View.read_writes_cons_unit_of_mem v f inb s L _ i rfl fun a => by
    have hi0 : (i 0).val < 1 := (i 0).isLt
    match a with
    | ⟨0, _⟩ => show b.val = b.val + (i 0).val; omega
    | ⟨1, _⟩ => show (i 1).val = 0 + (i 1).val; omega
    | ⟨2, _⟩ => show (i 2).val = 0 + (i 2).val; omega

theorem maxSlot_skip (v : View sig κ sp S2x1024x128 .f32) (f : v.ty.Contents (Elt F)) (b b' : Fin 2) (hb : b ≠ b') (s s' : Vec F S1x1024x128 .f32)
    (L : List (View.Piece (Elt F) S2x1024x128 .f32))
    (inb : ∀ a, (![b'.val, 0, 0] : Fin 3 → ℕ) a + S1x1024x128.size a ≤ S2x1024x128.size a) (h : MaxSlot v (v.writes (Elt F) f L) b s) :
    MaxSlot v (v.writes (Elt F) f (⟨Rect.unit (s := S2x1024x128) ![b'.val, 0, 0] S1x1024x128.size inb, s'⟩ :: L)) b s := fun i =>
  (View.read_writes_cons_unit_of_not_mem v f inb s' L _ rfl 0 (by
    show b.val < b'.val ∨ b'.val + 1 ≤ b.val
    have : b.val ≠ b'.val := fun e => hb (Fin.ext e)
    omega)).trans (h i)

/-- A load of the whole running maximum, -/
theorem load_runMax (v : View sig κ sp S1024x128 .f32) (f : v.ty.Contents (Elt F)) (inb : ∀ a, (![0, 0] : Fin 2 → ℕ) a + S1024x128.size a ≤ S1024x128.size a) :
    v.readAt (Elt F) (Rect.unit (s := S1024x128) ![0, 0] ![1024, 128] inb).toLoadRect f = v.read (Elt F) f := View.readAt_full v f inb

/-- of the whole running sum, -/
theorem load_runSum (v : View sig κ sp S1024x256 .f32) (f : v.ty.Contents (Elt F)) (inb : ∀ a, (![0, 0] : Fin 2 → ℕ) a + S1024x256.size a ≤ S1024x256.size a) :
    v.readAt (Elt F) (Rect.unit (s := S1024x256) ![0, 0] ![1024, 256] inb).toLoadRect f = v.read (Elt F) f := View.readAt_full v f inb

/-- and either after a store of the whole. -/
theorem read_runMax (v : View sig κ sp S1024x128 .f32) (f : v.ty.Contents (Elt F)) (s : Vec F S1024x128 .f32) (L : List (View.Piece (Elt F) S1024x128 .f32))
    (inb : ∀ a, (![0, 0] : Fin 2 → ℕ) a + S1024x128.size a ≤ S1024x128.size a) :
    v.read (Elt F) (v.writes (Elt F) f (⟨Rect.unit (s := S1024x128) ![0, 0] ![1024, 128] inb, s⟩ :: L)) = s := View.read_writes_full v f inb s L

theorem read_runSum (v : View sig κ sp S1024x256 .f32) (f : v.ty.Contents (Elt F)) (s : Vec F S1024x256 .f32) (L : List (View.Piece (Elt F) S1024x256 .f32))
    (inb : ∀ a, (![0, 0] : Fin 2 → ℕ) a + S1024x256.size a ≤ S1024x256.size a) :
    v.read (Elt F) (v.writes (Elt F) f (⟨Rect.unit (s := S1024x256) ![0, 0] ![1024, 256] inb, s⟩ :: L)) = s := View.read_writes_full v f inb s L

/-- 128 columns of a slot that start early enough lie in it. -/
theorem cols_inb (b : Fin 2) (o : ℕ) (h : o + 128 ≤ 3328) : ∀ a, (![b.val, 0, o] : Fin 3 → ℕ) a + S1x1024x128.size a ≤ S2x1024x3328.size a := fun a => by
  match a with
  | ⟨0, _⟩ => show b.val + 1 ≤ 2; omega
  | ⟨1, _⟩ => show 0 + 1024 ≤ 1024; omega
  | ⟨2, _⟩ => exact h

/-- A load of half the columns of the running sum, after a store of the whole. -/
theorem load_half (v : View sig κ sp S1024x256 .f32) (s : Vec F S1024x256 .f32) (L : List (View.Piece (Elt F) S1024x256 .f32)) (o : ℕ)
    (inb : ∀ a, (![0, 0] : Fin 2 → ℕ) a + S1024x256.size a ≤ S1024x256.size a)
    (inb' : ∀ a, (![0, o] : Fin 2 → ℕ) a + S1024x128.size a ≤ S1024x256.size a) :
    v.readCov (⟨Rect.unit (s := S1024x256) ![0, 0] S1024x256.size inb, s⟩ :: L) (Rect.unit (s := S1024x256) ![0, o] S1024x128.size inb').toLoadRect
      = fun i => s (ix2 (n0 := 1024) (n1 := 256) (i 0) (Fin.ofNat 256 (o + (i 1).val))) := by
  funext i
  have h1 := inb' 1
  change o + 128 ≤ 256 at h1
  have hi : (i 1).val < 128 := (i 1).isLt
  rw [View.readCov, View.readAt_apply, View.read_writes_full]
  refine congrArg s (funext fun a => Fin.ext ?_)
  match a with
  | ⟨0, _⟩ => show 0 + 1 * (i 0).val = (i 0).val; omega
  | ⟨1, _⟩ => show o + 1 * (i 1).val = (o + (i 1).val) % 256; omega

end Loads

/-! ## One trip -/

theorem keys_off1 (k : Fin k0_t1_loop.trips) : k0_off1 k 1#32 1 = 3328 * (2 * k.val + 1) := by revert k; decide +kernel
theorem keys_off2 (k : Fin k0_t1_loop.trips) : k0_off1 k 2#32 1 = 3328 * (2 * k.val + 2) := by revert k; decide +kernel
theorem vals_off2 (k : Fin k0_t1_loop.trips) (n : Fin 13) :
    k0_off2 k (BitVec.ofNat 32 (256 * n.val)) 1 = 3328 * (2 * k.val) + 256 * n.val := by revert k n; decide +kernel
theorem vals_off3 (k : Fin k0_t1_loop.trips) (n : Fin 13) :
    k0_off3 k (BitVec.ofNat 32 (256 * n.val)) 1 = 3328 * (2 * k.val + 1) + 256 * n.val := by revert k n; decide +kernel

variable (c : Dev nD) (i : grid0.Coords) (arg2 : Memref sig .tc .vmem S1x1024x256 .bf16) (harg2 : arg2.IsWhole) (arg3 : Memref sig .tc .vmem S1x16640x256 .bf16) (harg3 : arg3.IsWhole) (arg4 : Memref sig .tc .vmem S1x16640x256 .bf16) (harg4 : arg4.IsWhole) (arg5 : Memref sig .tc .vmem S1024x128 .bf16) (harg5 : arg5.IsWhole) (arg6 : Memref sig .tc .vmem S2x1024x3328 .f32) (harg6 : arg6.IsWhole) (arg7 : Memref sig .tc .vmem S2x1024x128 .f32) (harg7 : arg7.IsWhole) (arg8 : Memref sig .tc .vmem S1024x128 .f32) (harg8 : arg8.IsWhole) (arg9 : Memref sig .tc .vmem S1024x256 .f32) (harg9 : arg9.IsWhole)
  (x0 : Vec F S1x1024x256 .bf16) (x1 x2 : Vec F S1x16640x256 .bf16)

/-- What the scratch holds when the first `j` chunks are done: the scores and the row maxima of chunk `j` in slot 0, and the running
    maximum and sum of the chunks before it. -/
structure Holds (j : ℕ) (f6 : BufTy.Contents (Elt F) arg6.view.ty) (f7 : BufTy.Contents (Elt F) arg7.view.ty)
    (f8 : BufTy.Contents (Elt F) arg8.view.ty) (f9 : BufTy.Contents (Elt F) arg9.view.ty) : Prop where
  scores : ScoreSlot arg6.view f6 0 (score x0 x1 j)
  maxima : MaxSlot arg7.view f7 0 (scoreMax x0 x1 j)
  run_max : arg8.view.read (Elt F) f8 = runMax x0 x1 j
  run_sum : arg9.view.read (Elt F) f9 = runSum x0 x1 x2 j

/-- The pieces of trip `k`, over the contents it finds. -/
abbrev tripAt (k : Fin k0_t1_loop.trips) (f6 : BufTy.Contents (Elt F) arg6.view.ty) (f7 : BufTy.Contents (Elt F) arg7.view.ty)
    (f8 : BufTy.Contents (Elt F) arg8.view.ty) (f9 : BufTy.Contents (Elt F) arg9.view.ty) :=
  tripL_k0_t1 (F := F) Variants.none c none i arg2 harg2 arg3 harg3 arg4 harg4 arg5 harg5 arg6 harg6 arg7 harg7 arg8 harg8 arg9 harg9 x0 (harg3.unread x1) (harg4.unread x2) k f6 f7 f8 f9

set_option maxHeartbeats 400000 in
/-- Trip `k` takes the scratch from chunk `2 k` to chunk `2 k + 2`, whatever lies under its pieces. -/
theorem trip_holds (k : Fin k0_t1_loop.trips) (f6 g6 : BufTy.Contents (Elt F) arg6.view.ty) (f7 g7 : BufTy.Contents (Elt F) arg7.view.ty)
    (f8 g8 : BufTy.Contents (Elt F) arg8.view.ty) (f9 g9 : BufTy.Contents (Elt F) arg9.view.ty)
    (h : Holds arg6 arg7 arg8 arg9 x0 x1 x2 (2 * k.val) f6 f7 f8 f9) :
    let L := tripAt c i arg2 harg2 arg3 harg3 arg4 harg4 arg5 harg5 arg6 harg6 arg7 harg7 arg8 harg8 arg9 harg9 x0 x1 x2 k f6 f7 f8 f9
    Holds arg6 arg7 arg8 arg9 x0 x1 x2 (2 * k.val + 2) (arg6.view.writes (Elt F) g6 L.1) (arg7.view.writes (Elt F) g7 L.2.1)
      (arg8.view.writes (Elt F) g8 L.2.2.1) (arg9.view.writes (Elt F) g9 L.2.2.2) := by
  obtain ⟨hs, hc, hm, ha⟩ := h
  have k1 := load_keys arg3 harg3 x1 (k0_off1 k 1#32) (k0_off1_inb k 0)
  have k2 := load_keys arg3 harg3 x1 (k0_off1 k 2#32) (k0_off1_inb k 1)
  rw [keys_off1] at k1; rw [keys_off2] at k2
  intro L
  have e6 : L.1 = [⟨Rect.unit ![0, 0, 0] S1x1024x3328.size inb_S2x1024x3328_S1x1024x3328_0_0_0, score x0 x1 (2 * k.val + 2)⟩,
      ⟨Rect.unit ![1, 0, 0] S1x1024x3328.size inb_S2x1024x3328_S1x1024x3328_1_0_0, score x0 x1 (2 * k.val + 1)⟩] := by
    rw [score, score, ← k1, ← k2]
    show (tripAt _ _ _ _ _ _ _ _ _ _ _ _ _ _ _ _ _ _ _ _ _ _ _ _ _ _).1 = _
    rw [tripAt, tripL_k0_t1]; unfold trip_k0_t1; rfl
  have e7 : L.2.1 = [⟨Rect.unit ![0, 0, 0] S1x1024x128.size inb_S2x1024x128_S1x1024x128_0_0_0, scoreMax x0 x1 (2 * k.val + 2)⟩,
      ⟨Rect.unit ![1, 0, 0] S1x1024x128.size inb_S2x1024x128_S1x1024x128_1_0_0, scoreMax x0 x1 (2 * k.val + 1)⟩] := by
    rw [scoreMax, scoreMax, ← k1, ← k2]
    show (tripAt _ _ _ _ _ _ _ _ _ _ _ _ _ _ _ _ _ _ _ _ _ _ _ _ _ _).2.1 = _
    rw [tripAt, tripL_k0_t1]; unfold trip_k0_t1; rfl
  have sl : ScoreSlot arg6.view (arg6.view.writes (Elt F) arg6.view.junk (trip_k0_t1.sl.HW_arg6_2 arg3 x0 (harg3.unread x1) k)) 1 (score x0 x1 (2 * k.val + 1)) := by
    rw [score, ← k1]
    exact scoreSlot_skip _ _ 1 0 (by decide) _ _ _ inb_S2x1024x3328_S1x1024x3328_0_0_0 (scoreSlot_cons _ _ 1 _ _ inb_S2x1024x3328_S1x1024x3328_1_0_0)
  have ml : MaxSlot arg7.view (arg7.view.writes (Elt F) arg7.view.junk (trip_k0_t1.sl.HW_arg7_2 arg3 x0 (harg3.unread x1) k)) 1 (scoreMax x0 x1 (2 * k.val + 1)) := by
    rw [scoreMax, ← k1]
    exact maxSlot_skip _ _ 1 0 (by decide) _ _ _ inb_S2x1024x128_S1x1024x128_0_0_0 (maxSlot_cons _ _ 1 _ _ inb_S2x1024x128_S1x1024x128_1_0_0)
  have c1 : trip_k0_t1.sl.v292 arg7 f7 = scoreMax x0 x1 (2 * k.val) := load_max arg7.view f7 0 _ hc _
  have c2 : trip_k0_t1.sl.v550 arg3 arg7 x0 (harg3.unread x1) k = scoreMax x0 x1 (2 * k.val + 1) := load_max arg7.view _ 1 _ ml _
  have m0 := (load_runMax arg8.view f8 inb_S1024x128_S1024x128_0_0).trans hm
  have a0 := (load_runSum arg9.view f9 inb_S1024x256_S1024x256_0_0).trans ha
  have m1 : trip_k0_t1.sl.v549 arg7 arg8 f7 f8 = runMax x0 x1 (2 * k.val + 1) := by
    refine (load_runMax arg8.view _ inb_S1024x128_S1024x128_0_0).trans ((read_runMax arg8.view _ _ _ _).trans ?_)
    rw [c1]
    exact congrArg (fun z => k0_pay7 z (scoreMax x0 x1 (2 * k.val))) m0
  have e8 : L.2.2.1 = ⟨Rect.unit ![0, 0] S1024x128.size inb_S1024x128_S1024x128_0_0, runMax x0 x1 (2 * k.val + 2)⟩
      :: trip_k0_t1.sl.HW_arg8_1 arg7 arg8 f7 f8 := by
    rw [runMax, ← m1, ← c2]
    show (tripAt _ _ _ _ _ _ _ _ _ _ _ _ _ _ _ _ _ _ _ _ _ _ _ _ _ _).2.2.1 = _
    rw [tripAt, tripL_k0_t1]; unfold trip_k0_t1; rfl
  let w1 : ℕ → Vec F S1x256x256 .bf16 := fun n => if h : n < 13 then arg4.view.readAt (Elt F) (Rect.unit (s := S1x16640x256)
    (k0_off2 k (BitVec.ofNat 32 (256 * n))) S1x256x256.size (k0_off2_inb k ⟨n, h⟩)).toLoadRect (harg4.unread x2) else valsAt x2 0
  let w2 : ℕ → Vec F S1x256x256 .bf16 := fun n => if h : n < 13 then arg4.view.readAt (Elt F) (Rect.unit (s := S1x16640x256)
    (k0_off3 k (BitVec.ofNat 32 (256 * n))) S1x256x256.size (k0_off3_inb k ⟨n, h⟩)).toLoadRect (harg4.unread x2) else valsAt x2 0
  let b1 : ℕ → Vec F S1x1024x128 .f32 := fun o => if h : o + 128 ≤ 3328 then arg6.view.readAt (Elt F) (Rect.unit (s := S2x1024x3328)
    ![0, 0, o] S1x1024x128.size (cols_inb 0 o h)).toLoadRect f6 else colsAt (score x0 x1 (2 * k.val)) o
  let b2 : ℕ → Vec F S1x1024x128 .f32 := fun o => if h : o + 128 ≤ 3328 then arg6.view.readCov (trip_k0_t1.sl.HW_arg6_2 arg3 x0 (harg3.unread x1) k)
    (Rect.unit (s := S2x1024x3328) ![1, 0, o] S1x1024x128.size (cols_inb 1 o h)).toLoadRect else colsAt (score x0 x1 (2 * k.val + 1)) o
  have hb1 : b1 = colsAt (score x0 x1 (2 * k.val)) := funext fun o => by
    show dite _ _ _ = _
    split
    · exact load_cols arg6.view f6 0 _ hs o _
    · rfl
  have hb2 : b2 = colsAt (score x0 x1 (2 * k.val + 1)) := funext fun o => by
    show dite _ _ _ = _
    split
    · exact load_cols arg6.view _ 1 _ sl o _
    · rfl
  have hw1 : ∀ n < 13, w1 n = valsAt x2 (3328 * (2 * k.val) + 256 * n) := fun n hn => by
    rw [show w1 n = _ from dif_pos hn, ← vals_off2 k ⟨n, hn⟩]; exact load_vals arg4 harg4 x2 _ _
  have hw2 : ∀ n < 13, w2 n = valsAt x2 (3328 * (2 * k.val + 1) + 256 * n) := fun n hn => by
    rw [show w2 n = _ from dif_pos hn, ← vals_off3 k ⟨n, hn⟩]; exact load_vals arg4 harg4 x2 _ _
  have a1 : trip_k0_t1.sl.v559 arg4 arg6 arg7 arg8 arg9 (harg4.unread x2) k f6 f7 f8 f9 = runSum x0 x1 x2 (2 * k.val + 1) := by
    refine (load_runSum arg9.view _ inb_S1024x256_S1024x256_0_0).trans ((read_runSum arg9.view _ _ _ _).trans ?_)
    rw [runSum, newSum_congr _ _ _ _ _ _ fun n hn => (hw1 n hn).symm, ← hb1, ← m0, ← a0, ← c1]
    exact first_eq (arg8.view.readAt (Elt F) (Rect.unit (s := S1024x128) ![0, 0] S1024x128.size inb_S1024x128_S1024x128_0_0).toLoadRect f8)
      (trip_k0_t1.sl.v292 arg7 f7)
      (arg9.view.readAt (Elt F) (Rect.unit (s := S1024x256) ![0, 0] S1024x256.size inb_S1024x256_S1024x256_0_0).toLoadRect f9) b1 w1
  have e9 : L.2.2.2 = ⟨Rect.unit ![0, 0] S1024x256.size inb_S1024x256_S1024x256_0_0, runSum x0 x1 x2 (2 * k.val + 2)⟩
      :: trip_k0_t1.sl.HW_arg9_1 arg4 arg6 arg7 arg8 arg9 (harg4.unread x2) k f6 f7 f8 f9 := by
    rw [runSum, newSum_congr _ _ _ _ _ _ fun n hn => (hw2 n hn).symm, ← hb2, ← m1, ← a1, ← c2, ← second_eq]
    show (tripAt _ _ _ _ _ _ _ _ _ _ _ _ _ _ _ _ _ _ _ _ _ _ _ _ _ _).2.2.2 = _
    rw [tripAt, tripL_k0_t1]; unfold trip_k0_t1; rfl
  rw [e6, e7, e8, e9]
  exact ⟨scoreSlot_cons _ _ 0 _ _ _, maxSlot_cons _ _ 0 _ _ _, read_runMax _ _ _ _ _, read_runSum _ _ _ _ _⟩

end Cert.KernelIdeal.Flash
-- ==== Proof.Block.lean ====
module

public import proofs.«01_k».proof.Proof.Loop

@[expose] public section

set_option maxRecDepth 16384

noncomputable section

/-! The block the call writes is Spec.lean's `blockOut` of its three input blocks. -/

namespace Cert.KernelIdeal.Flash

open Cert.KernelIdeal Cert.KernelIdeal.Gen
open Idealize.ShloMosaic Idealize.ShloMosaic.TcCoe Idealize.ShloMosaic.Tactic Idealize.ShloMosaic.ValueIdx

variable {F : FTy → Type} [FloatOps F]

variable (c : Dev nD) (i : grid0.Coords) (arg2 : Memref sig .tc .vmem S1x1024x256 .bf16) (harg2 : arg2.IsWhole) (arg3 : Memref sig .tc .vmem S1x16640x256 .bf16) (harg3 : arg3.IsWhole) (arg4 : Memref sig .tc .vmem S1x16640x256 .bf16) (harg4 : arg4.IsWhole) (arg5 : Memref sig .tc .vmem S1024x128 .bf16) (harg5 : arg5.IsWhole) (arg6 : Memref sig .tc .vmem S2x1024x3328 .f32) (harg6 : arg6.IsWhole) (arg7 : Memref sig .tc .vmem S2x1024x128 .f32) (harg7 : arg7.IsWhole) (arg8 : Memref sig .tc .vmem S1024x128 .f32) (harg8 : arg8.IsWhole) (arg9 : Memref sig .tc .vmem S1024x256 .f32) (harg9 : arg9.IsWhole)
  (x0 : Vec F S1x1024x256 .bf16) (x1 x2 : Vec F S1x16640x256 .bf16)

/-- The pieces of the trips before trip `k`, over the contents `G6 G7 G8 G9` the loop starts from. -/
abbrev piecesBefore (G6 : BufTy.Contents (Elt F) arg6.view.ty) (G7 : BufTy.Contents (Elt F) arg7.view.ty)
    (G8 : BufTy.Contents (Elt F) arg8.view.ty) (G9 : BufTy.Contents (Elt F) arg9.view.ty) (k : ℕ) :=
  pb_k0_t1 (F := F) Variants.none c none i arg2 harg2 arg3 harg3 arg4 harg4 arg5 harg5 arg6 harg6 arg7 harg7 arg8 harg8 arg9 harg9 x0 (harg3.unread x1) (harg4.unread x2) G6 G7 G8 G9 k

/-- After `k` trips from contents that hold chunk 0, the pieces written over any contents that hold chunk 0 hold chunk `2 k`. -/
theorem loop_holds (G6 H6 : BufTy.Contents (Elt F) arg6.view.ty) (G7 H7 : BufTy.Contents (Elt F) arg7.view.ty)
    (G8 H8 : BufTy.Contents (Elt F) arg8.view.ty) (G9 H9 : BufTy.Contents (Elt F) arg9.view.ty)
    (hG : Holds arg6 arg7 arg8 arg9 x0 x1 x2 0 G6 G7 G8 G9) (hH : Holds arg6 arg7 arg8 arg9 x0 x1 x2 0 H6 H7 H8 H9)
    (k : ℕ) (hk : k ≤ k0_t1_loop.trips) :
    let L := piecesBefore c i arg2 harg2 arg3 harg3 arg4 harg4 arg5 harg5 arg6 harg6 arg7 harg7 arg8 harg8 arg9 harg9 x0 x1 x2 G6 G7 G8 G9 k
    Holds arg6 arg7 arg8 arg9 x0 x1 x2 (2 * k) (arg6.view.writes (Elt F) H6 L.1) (arg7.view.writes (Elt F) H7 L.2.1)
      (arg8.view.writes (Elt F) H8 L.2.2.1) (arg9.view.writes (Elt F) H9 L.2.2.2) := by
  induction k generalizing H6 H7 H8 H9 with
  | zero => exact hH
  | succ k ih =>
    have hsucc := pb_k0_t1_succ (F := F) Variants.none c none i arg2 harg2 arg3 harg3 arg4 harg4 arg5 harg5 arg6 harg6 arg7 harg7 arg8 harg8 arg9 harg9 x0 (harg3.unread x1) (harg4.unread x2) G6 G7 G8 G9 ⟨k, hk⟩
    intro L
    have hL : L = _ := hsucc
    rw [hL]
    simp only [View.writes_append]
    exact trip_holds c i arg2 harg2 arg3 harg3 arg4 harg4 arg5 harg5 arg6 harg6 arg7 harg7 arg8 harg8 arg9 harg9 x0 x1 x2 ⟨k, hk⟩ _ _ _ _ _ _ _ _ (ih G6 G7 G8 G9 hG (by omega))

/-- The query block as the body loads it. -/
abbrev loadQ (arg2 : Memref sig .tc .vmem S1x1024x256 .bf16) (harg2 : arg2.IsWhole) (x0 : Vec F S1x1024x256 .bf16) : Vec F S1x1024x256 .bf16 :=
  arg2.view.readAt (Elt F) (Rect.unit (s := S1x1024x256) ![0, 0, 0] S1x1024x256.size inb_S1x1024x256_S1x1024x256_0_0_0).toLoadRect (harg2.unread x0)

theorem loadQ_eq (arg2 : Memref sig .tc .vmem S1x1024x256 .bf16) (harg2 : arg2.IsWhole) (x0 : Vec F S1x1024x256 .bf16) : loadQ arg2 harg2 x0 = x0 :=
  (View.readAt_full arg2.view _ _).trans (harg2.read_unread x0)

/-- The stores before the loop, over any contents, hold chunk 0. -/
theorem init_holds (g6 : BufTy.Contents (Elt F) arg6.view.ty) (g7 : BufTy.Contents (Elt F) arg7.view.ty)
    (g8 : BufTy.Contents (Elt F) arg8.view.ty) (g9 : BufTy.Contents (Elt F) arg9.view.ty) :
    Holds arg6 arg7 arg8 arg9 x0 x1 x2 0
      (arg6.view.writes (Elt F) g6 [⟨Rect.unit (s := S2x1024x3328) ![0, 0, 0] S1x1024x3328.size inb_S2x1024x3328_S1x1024x3328_0_0_0, k0_pay41 x0
        (arg3.view.readAt (Elt F) (Rect.unit (s := S1x16640x256) ![0, 0, 0] S1x3328x256.size inb_S1x16640x256_S1x3328x256_0_0_0).toLoadRect (harg3.unread x1))⟩])
      (arg7.view.writes (Elt F) g7 [⟨Rect.unit (s := S2x1024x128) ![0, 0, 0] S1x1024x128.size inb_S2x1024x128_S1x1024x128_0_0_0, k0_pay42 x0
        (arg3.view.readAt (Elt F) (Rect.unit (s := S1x16640x256) ![0, 0, 0] S1x3328x256.size inb_S1x16640x256_S1x3328x256_0_0_0).toLoadRect (harg3.unread x1))⟩])
      (arg8.view.writes (Elt F) g8 kernelRun.sl.H8_1) (arg9.view.writes (Elt F) g9 kernelRun.sl.H9_1) := by
  have k0 := load_keys arg3 harg3 x1 ![0, 0, 0] inb_S1x16640x256_S1x3328x256_0_0_0
  have es : score x0 x1 0 = _ := congrArg (k0_pay41 x0) k0.symm
  have em : scoreMax x0 x1 0 = _ := congrArg (k0_pay42 x0) k0.symm
  refine ⟨?_, ?_, read_runMax _ _ _ _ _, read_runSum _ _ _ _ _⟩
  · rw [es]; exact scoreSlot_cons _ _ 0 _ _ _
  · rw [em]; exact maxSlot_cons _ _ 0 _ _ _

theorem vals_inb (n : ℕ) (h : n < 13) : ∀ a, (![0, 13312 + 256 * n, 0] : Fin 3 → ℕ) a + S1x256x256.size a ≤ S1x16640x256.size a := fun a => by
  match a with
  | ⟨0, _⟩ => show 0 + 1 ≤ 1; omega
  | ⟨1, _⟩ => show 13312 + 256 * n + 256 ≤ 16640; omega
  | ⟨2, _⟩ => show 0 + 256 ≤ 256; omega

set_option maxHeartbeats 1000000 in
/-- What the body writes to its output block, read back, is `blockOut` of its input blocks. -/
theorem block_eq (f5 : BufTy.Contents (Elt F) arg5.view.ty) (f6 : BufTy.Contents (Elt F) arg6.view.ty) (f7 : BufTy.Contents (Elt F) arg7.view.ty)
    (f8 : BufTy.Contents (Elt F) arg8.view.ty) (f9 : BufTy.Contents (Elt F) arg9.view.ty) :
    arg5.view.read (Elt F) (arg5.view.writes (Elt F) f5 ((kernelRun c i arg2 harg2 arg3 harg3 arg4 harg4 arg5 harg5 arg6 harg6 arg7 harg7 arg8 harg8 arg9 harg9 x0 x1 x2).1 f6 f7 f8 f9)) = blockOut x0 x1 x2 := by
  obtain ⟨hs, hc, hm, ha⟩ := loop_holds c i arg2 harg2 arg3 harg3 arg4 harg4 arg5 harg5 arg6 harg6 arg7 harg7 arg8 harg8 arg9 harg9 (loadQ arg2 harg2 x0) x1 x2 _ _ _ _ _ _ _ _
    (init_holds arg3 harg3 arg6 arg7 arg8 arg9 (loadQ arg2 harg2 x0) x1 x2 f6 f7 arg8.view.junk arg9.view.junk)
    (init_holds arg3 harg3 arg6 arg7 arg8 arg9 (loadQ arg2 harg2 x0) x1 x2 arg6.view.junk arg7.view.junk arg8.view.junk arg9.view.junk)
    k0_t1_loop.trips le_rfl
  rw [← View.writes_append] at hs hc hm ha
  have hc' : kernelRun.sl.v28 c i arg2 harg2 arg3 harg3 arg4 harg4 arg5 harg5 arg6 harg6 arg7 harg7 arg8 harg8 arg9 harg9 x0 x1 x2 f6 f7 = scoreMax (loadQ arg2 harg2 x0) x1 4 := load_max arg7.view _ 0 _ hc _
  have hm' : kernelRun.sl.v27 c i arg2 harg2 arg3 harg3 arg4 harg4 arg5 harg5 arg6 harg6 arg7 harg7 arg8 harg8 arg9 harg9 x0 x1 x2 f6 f7 = runMax (loadQ arg2 harg2 x0) x1 4 := (load_runMax arg8.view _ _).trans hm
  have ha' : kernelRun.sl.v37 c i arg2 harg2 arg3 harg3 arg4 harg4 arg5 harg5 arg6 harg6 arg7 harg7 arg8 harg8 arg9 harg9 x0 x1 x2 f6 f7 = runSum (loadQ arg2 harg2 x0) x1 x2 4 := (load_runSum arg9.view _ _).trans ha
  let pieces := (piecesBefore c i arg2 harg2 arg3 harg3 arg4 harg4 arg5 harg5 arg6 harg6 arg7 harg7 arg8 harg8 arg9 harg9 (loadQ arg2 harg2 x0) x1 x2
      (arg6.view.writes (Elt F) f6 [⟨Rect.unit (s := S2x1024x3328) ![0, 0, 0] S1x1024x3328.size inb_S2x1024x3328_S1x1024x3328_0_0_0, k0_pay41 (loadQ arg2 harg2 x0)
        (arg3.view.readAt (Elt F) (Rect.unit (s := S1x16640x256) ![0, 0, 0] S1x3328x256.size inb_S1x16640x256_S1x3328x256_0_0_0).toLoadRect (harg3.unread x1))⟩])
      (arg7.view.writes (Elt F) f7 [⟨Rect.unit (s := S2x1024x128) ![0, 0, 0] S1x1024x128.size inb_S2x1024x128_S1x1024x128_0_0_0, k0_pay42 (loadQ arg2 harg2 x0)
        (arg3.view.readAt (Elt F) (Rect.unit (s := S1x16640x256) ![0, 0, 0] S1x3328x256.size inb_S1x16640x256_S1x3328x256_0_0_0).toLoadRect (harg3.unread x1))⟩])
      (arg8.view.writes (Elt F) arg8.view.junk kernelRun.sl.H8_1) (arg9.view.writes (Elt F) arg9.view.junk kernelRun.sl.H9_1) k0_t1_loop.trips).1
    ++ [⟨Rect.unit (s := S2x1024x3328) ![0, 0, 0] S1x1024x3328.size inb_S2x1024x3328_S1x1024x3328_0_0_0, k0_pay41 (loadQ arg2 harg2 x0)
        (arg3.view.readAt (Elt F) (Rect.unit (s := S1x16640x256) ![0, 0, 0] S1x3328x256.size inb_S1x16640x256_S1x3328x256_0_0_0).toLoadRect (harg3.unread x1))⟩]
  let b : ℕ → Vec F S1x1024x128 .f32 := fun o => if h : o + 128 ≤ 3328 then arg6.view.readCov pieces
    (Rect.unit (s := S2x1024x3328) ![0, 0, o] S1x1024x128.size (cols_inb 0 o h)).toLoadRect else colsAt (score (loadQ arg2 harg2 x0) x1 4) o
  let w : ℕ → Vec F S1x256x256 .bf16 := fun n => if h : n < 13 then arg4.view.readAt (Elt F) (Rect.unit (s := S1x16640x256)
    ![0, 13312 + 256 * n, 0] S1x256x256.size (vals_inb n h)).toLoadRect (harg4.unread x2) else valsAt x2 0
  have hb : b = colsAt (score (loadQ arg2 harg2 x0) x1 4) := funext fun o => by
    show dite _ _ _ = _
    split
    · exact load_cols arg6.view _ 0 _ hs o _
    · rfl
  have hw : ∀ n < 13, w n = valsAt x2 (3328 * 4 + 256 * n) := fun n hn => by
    rw [show w n = _ from dif_pos hn]; exact load_vals arg4 harg4 x2 _ _
  have e9 : kernelRun.sl.H9_1_1 c i arg2 harg2 arg3 harg3 arg4 harg4 arg5 harg5 arg6 harg6 arg7 harg7 arg8 harg8 arg9 harg9 x0 x1 x2 f6 f7 = ⟨Rect.unit ![0, 0] S1024x256.size inb_S1024x256_S1024x256_0_0, runSum (loadQ arg2 harg2 x0) x1 x2 5⟩
      :: (kernelRun.sl.H9_1_1 c i arg2 harg2 arg3 harg3 arg4 harg4 arg5 harg5 arg6 harg6 arg7 harg7 arg8 harg8 arg9 harg9 x0 x1 x2 f6 f7).tail := by
    rw [runSum, newSum_congr _ _ _ _ _ _ fun n hn => (hw n hn).symm, ← hb, ← hm', ← ha', ← hc', ← last_eq]
    rfl
  have e1 : kernelRun.sl.v263 c i arg2 harg2 arg3 harg3 arg4 harg4 arg5 harg5 arg6 harg6 arg7 harg7 arg8 harg8 arg9 harg9 x0 x1 x2 f6 f7 = leftCols (runSum x0 x1 x2 5) := by
    rw [kernelRun.sl.v263, e9, loadQ_eq]; exact (load_half _ _ _ 0 _ _).trans (funext fun j => by rw [Nat.zero_add]; rfl)
  have e2 : kernelRun.sl.v264 c i arg2 harg2 arg3 harg3 arg4 harg4 arg5 harg5 arg6 harg6 arg7 harg7 arg8 harg8 arg9 harg9 x0 x1 x2 f6 f7 = rightCols (runSum x0 x1 x2 5) := by
    rw [kernelRun.sl.v264, e9, loadQ_eq]; exact load_half _ _ _ 128 _ _
  unfold kernelRun
  dsimp only
  rw [e1, e2]
  exact View.read_writes_full _ _ _ _ _

end Cert.KernelIdeal.Flash
-- ==== Proof.Body.lean ====
module

public import proofs.«01_k».proof.Proof.Block
public import Idealize.ShloMosaic.Lib.Claim

@[expose] public section

set_option maxRecDepth 16384

noncomputable section

/-! The run of the whole idealized program: at every grid point the body writes `blockOut` of the three input blocks there, so the frame holds and the output array's blocks are known. -/

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at point `t`, -/
abbrev ms0_0 (t : Fin cfg0.N) : Memref sig .tc .vmem S1x1024x256 .bf16 := win0_0.stage (cfg0.slots t 0)
abbrev ms0_1 (t : Fin cfg0.N) : Memref sig .tc .vmem S1x16640x256 .bf16 := win0_1.stage (cfg0.slots t 1)
abbrev ms0_2 (t : Fin cfg0.N) : Memref sig .tc .vmem S1x16640x256 .bf16 := win0_2.stage (cfg0.slots t 2)
abbrev ms0_3 (t : Fin cfg0.N) : Memref sig .tc .vmem S1024x128 .bf16 := win0_3.stage (cfg0.slots t 3)
/-- and the four scratch memrefs. -/
abbrev scM0_0 : Memref sig .tc .vmem S2x1024x3328 .f32 := Memref.whole cc0_scratch0
abbrev scM0_1 : Memref sig .tc .vmem S2x1024x128 .f32 := Memref.whole cc0_scratch1
abbrev scM0_2 : Memref sig .tc .vmem S1024x128 .f32 := Memref.whole cc0_scratch2
abbrev scM0_3 : Memref sig .tc .vmem S1024x256 .f32 := Memref.whole cc0_scratch3

/-- What the launch keeps from point to point: the scratch at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
        ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The proof data of the launch on core `c`: the arrays as the launch finds them; after the body at point `t` each input's buffer
    at its block and the output's at `blockOut` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold owns
  iintro ⟨⟨⟨⟨%e0, %g0, %_, HS0⟩, ⟨%e1, %g1, %_, HS1⟩, ⟨%e2, %g2, %_, HS2⟩, ⟨%e3, %g3, %_, HS3⟩⟩, Hg⟩, Ho, ⟨%d0, H0⟩, ⟨%d1, H1⟩, ⟨%d2, H2⟩, ⟨%d3, %f3, %_, H3⟩⟩
  iapply ((kernelRun c (grid0.coords t) _ _ _ _ _ _ _ _ _ _ _ _ _ _ _ _ (iblk m c 0 t) (iblk m c 1 t) (iblk m c 2 t)).2 Set.univ _ f3 g0 g1 g2 g3)
  unfold owns
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexists _; isplitr; swap; · iexact H3
  ipureintro
  exact block_eq c (grid0.coords t) _ _ _ _ _ _ _ _ _ _ _ _ _ _ _ _ (iblk m c 0 t) (iblk m c 1 t) (iblk m c 2 t) _ _ _ _ _

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: from any memory with zero counters every execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter at zero, at any float instance. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Flash

end
-- ==== Proof.ExpertsSpec.lean ====
module

public import Idealize.ShloMosaic.PureOps.Ideal
public import Idealize.ShloMosaic.PureOps.Ideal.Laws
public import Idealize.ShloMosaic.Lib.ValueIdx

@[expose] public section

noncomputable section

/-! The experts' layer over the extended reals: what both programs leave in their result. -/

namespace Cert.Experts

open Idealize.ShloMosaic Idealize.ShloMosaic.ValueIdx

/-- The gated activation of a gate column and a linear column. -/
def gated (u v : EReal) : EReal :=
  min u (Ideal.ofBits .f32 0x40E00000#32)
    * Ideal.div (Ideal.ofBits .f32 0x3F800000#32) (Ideal.ofBits .f32 0x3F800000#32
        + Ideal.exp (-(Ideal.ofBits .f32 0x3FD9DB23#32 * min u (Ideal.ofBits .f32 0x40E00000#32))))
    * (min (Ideal.ofBits .f32 0x40E00000#32) (max (Ideal.ofBits .f32 0xC0E00000#32) v) + Ideal.ofBits .f32 0x3F800000#32)

/-- The literal of the kernel's exponent is the other's negation. -/
theorem slope_neg : Ideal.ofBits .f32 0xBFD9DB23#32 = -Ideal.ofBits .f32 0x3FD9DB23#32 := by
  simp [Ideal.ofBits, Ideal.ieee, -EReal.coe_mul]

/-- Row `r` of block `t` of the slots. -/
def slot (t : Fin 162) (r : Fin 512) : Fin 82944 := ⟨512 * t.val + r.val, by omega⟩

variable (e : Fin 162 → Fin 32) (x : FVec Ideal ⟨2, ![82944, 1024]⟩ .f32) (g : FVec Ideal ⟨2, ![82944, 1]⟩ .f32)
  (w1 : FVec Ideal ⟨4, ![2, 32, 1024, 2048]⟩ .f32) (b1 : FVec Ideal ⟨3, ![2, 32, 2048]⟩ .f32)
  (w2 : FVec Ideal ⟨4, ![2, 32, 1024, 1024]⟩ .f32) (b2 : FVec Ideal ⟨3, ![2, 32, 1024]⟩ .f32)

/-- Column `j` of the first product, with its bias. -/
def upGate (t : Fin 162) (r : Fin 512) (j : Fin 2048) : EReal :=
  (∑ d : Fin 1024, (x (ix2 (slot t r) d) : EReal) * (w1 (ix4 0 (e t) d j) : EReal)) + (b1 (ix3 0 (e t) j) : EReal)

/-- Gate and linear columns alternate. -/
def activation (t : Fin 162) (r : Fin 512) (f : Fin 1024) : EReal :=
  gated (upGate e x w1 b1 t r ⟨2 * f.val, by omega⟩) (upGate e x w1 b1 t r ⟨2 * f.val + 1, by omega⟩)

/-- A slot's row through its block's expert, times the slot's gate. -/
def expert (t : Fin 162) (r : Fin 512) (c : Fin 1024) : EReal :=
  ((∑ f : Fin 1024, activation e x w1 b1 t r f * (w2 (ix4 0 (e t) f c) : EReal)) + (b2 (ix3 0 (e t) c) : EReal)) * (g (ix2 (slot t r) 0) : EReal)

/-- The blocks below the number of blocks in use hold the expert's rows, the others zero. -/
def layer (n : BitVec 32) (t : Fin 162) (r : Fin 512) (c : Fin 1024) : EReal :=
  if (BitVec.ofNat 32 t.val).slt n = true then expert e x g w1 b1 w2 b2 t r c else 0

end Cert.Experts

end
-- ==== Proof.ExpertsRef.lean ====
module

public import proofs.«01_k».proof.Proof.Gen.Reference2Ideal.Read
public import proofs.«01_k».proof.Proof.ExpertsSpec

@[expose] public section

set_option maxRecDepth 16384

noncomputable section

/-! The reference's value: the experts' layer, when every block's expert is one of the thirty-two. -/

namespace Cert.Reference2Ideal.Read

open Cert.Reference2Ideal Cert.Reference2Ideal.Gen Cert.Experts
open Idealize.ShloMosaic Idealize.ShloMosaic.ValueIdx

/-! The rows an index array names. -/

theorem gather_up {α : Type} (x : S32x1024x2048.Idx → α) (idx : IVec S162x1 32) (e : Fin 32) (t : Fin 162) (i : Fin 1024) (j : Fin 2048)
    (h : (idx (ix2 t 0)).toInt.toNat = e.val) : Host.gather gather_S32x1024x2048_S162x1_S162x1024x2048_12_0_n_n_0_1_110242048 x idx (ix3 t i j) = x (ix3 e i j) := by
  unfold Host.gather
  refine congrArg x (funext fun a => Fin.ext ?_)
  show gather_S32x1024x2048_S162x1_S162x1024x2048_12_0_n_n_0_1_110242048.start (ix3 t i j) idx a + gather_S32x1024x2048_S162x1_S162x1024x2048_12_0_n_n_0_1_110242048.batchCoord (ix3 t i j) a + gather_S32x1024x2048_S162x1_S162x1024x2048_12_0_n_n_0_1_110242048.offCoord (ix3 t i j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ gather_S32x1024x2048_S162x1_S162x1024x2048_12_0_n_n_0_1_110242048.startIndexMap from List.mem_singleton.mpr rfl)).trans ?_
    refine (congrArg (fun q => min (idx q).toInt.toNat 31) (?_ : _ = ix2 t (0 : Fin 1))).trans ?_
    · funext b; refine Fin.ext ?_
      match b with
      | ⟨0, _⟩ => rfl
      | ⟨1, _⟩ => rfl
    · show min (idx (ix2 t 0)).toInt.toNat 31 = e.val
      rw [h]; omega
  | ⟨1, _⟩ =>
    unfold GatherDims.start GatherDims.offCoord
    exact (congrArg₂ (· + ·) (dif_neg (show (1 : Fin 3) ∉ gather_S32x1024x2048_S162x1_S162x1024x2048_12_0_n_n_0_1_110242048.startIndexMap by decide)) (dif_pos (show (1 : Fin 3) ∈ gather_S32x1024x2048_S162x1_S162x1024x2048_12_0_n_n_0_1_110242048.sKept by decide))).trans (Nat.zero_add _)
  | ⟨2, _⟩ =>
    unfold GatherDims.start GatherDims.offCoord
    exact (congrArg₂ (· + ·) (dif_neg (show (2 : Fin 3) ∉ gather_S32x1024x2048_S162x1_S162x1024x2048_12_0_n_n_0_1_110242048.startIndexMap by decide)) (dif_pos (show (2 : Fin 3) ∈ gather_S32x1024x2048_S162x1_S162x1024x2048_12_0_n_n_0_1_110242048.sKept by decide))).trans (Nat.zero_add _)

theorem gather_down {α : Type} (x : S32x1024x1024.Idx → α) (idx : IVec S162x1 32) (e : Fin 32) (t : Fin 162) (i : Fin 1024) (j : Fin 1024)
    (h : (idx (ix2 t 0)).toInt.toNat = e.val) : Host.gather gather_S32x1024x1024_S162x1_S162x1024x1024_12_0_n_n_0_1_110241024 x idx (ix3 t i j) = x (ix3 e i j) := by
  unfold Host.gather
  refine congrArg x (funext fun a => Fin.ext ?_)
  show gather_S32x1024x1024_S162x1_S162x1024x1024_12_0_n_n_0_1_110241024.start (ix3 t i j) idx a + gather_S32x1024x1024_S162x1_S162x1024x1024_12_0_n_n_0_1_110241024.batchCoord (ix3 t i j) a + gather_S32x1024x1024_S162x1_S162x1024x1024_12_0_n_n_0_1_110241024.offCoord (ix3 t i j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ gather_S32x1024x1024_S162x1_S162x1024x1024_12_0_n_n_0_1_110241024.startIndexMap from List.mem_singleton.mpr rfl)).trans ?_
    refine (congrArg (fun q => min (idx q).toInt.toNat 31) (?_ : _ = ix2 t (0 : Fin 1))).trans ?_
    · funext b; refine Fin.ext ?_
      match b with
      | ⟨0, _⟩ => rfl
      | ⟨1, _⟩ => rfl
    · show min (idx (ix2 t 0)).toInt.toNat 31 = e.val
      rw [h]; omega
  | ⟨1, _⟩ =>
    unfold GatherDims.start GatherDims.offCoord
    exact (congrArg₂ (· + ·) (dif_neg (show (1 : Fin 3) ∉ gather_S32x1024x1024_S162x1_S162x1024x1024_12_0_n_n_0_1_110241024.startIndexMap by decide)) (dif_pos (show (1 : Fin 3) ∈ gather_S32x1024x1024_S162x1_S162x1024x1024_12_0_n_n_0_1_110241024.sKept by decide))).trans (Nat.zero_add _)
  | ⟨2, _⟩ =>
    unfold GatherDims.start GatherDims.offCoord
    exact (congrArg₂ (· + ·) (dif_neg (show (2 : Fin 3) ∉ gather_S32x1024x1024_S162x1_S162x1024x1024_12_0_n_n_0_1_110241024.startIndexMap by decide)) (dif_pos (show (2 : Fin 3) ∈ gather_S32x1024x1024_S162x1_S162x1024x1024_12_0_n_n_0_1_110241024.sKept by decide))).trans (Nat.zero_add _)

theorem gather_up_bias {α : Type} (x : S32x2048.Idx → α) (idx : IVec S162x1 32) (e : Fin 32) (t : Fin 162) (j : Fin 2048)
    (h : (idx (ix2 t 0)).toInt.toNat = e.val) : Host.gather gather_S32x2048_S162x1_S162x2048_1_0_n_n_0_1_12048 x idx (ix2 t j) = x (ix2 e j) := by
  unfold Host.gather
  refine congrArg x (funext fun a => Fin.ext ?_)
  show gather_S32x2048_S162x1_S162x2048_1_0_n_n_0_1_12048.start (ix2 t j) idx a + gather_S32x2048_S162x1_S162x2048_1_0_n_n_0_1_12048.batchCoord (ix2 t j) a + gather_S32x2048_S162x1_S162x2048_1_0_n_n_0_1_12048.offCoord (ix2 t j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ gather_S32x2048_S162x1_S162x2048_1_0_n_n_0_1_12048.startIndexMap from List.mem_singleton.mpr rfl)).trans ?_
    refine (congrArg (fun q => min (idx q).toInt.toNat 31) (?_ : _ = ix2 t (0 : Fin 1))).trans ?_
    · funext b; refine Fin.ext ?_
      match b with
      | ⟨0, _⟩ => rfl
      | ⟨1, _⟩ => rfl
    · show min (idx (ix2 t 0)).toInt.toNat 31 = e.val
      rw [h]; omega
  | ⟨1, _⟩ =>
    unfold GatherDims.start GatherDims.offCoord
    exact (congrArg₂ (· + ·) (dif_neg (show (1 : Fin 2) ∉ gather_S32x2048_S162x1_S162x2048_1_0_n_n_0_1_12048.startIndexMap by decide)) (dif_pos (show (1 : Fin 2) ∈ gather_S32x2048_S162x1_S162x2048_1_0_n_n_0_1_12048.sKept by decide))).trans (Nat.zero_add _)

theorem gather_down_bias {α : Type} (x : S32x1024.Idx → α) (idx : IVec S162x1 32) (e : Fin 32) (t : Fin 162) (j : Fin 1024)
    (h : (idx (ix2 t 0)).toInt.toNat = e.val) : Host.gather gather_S32x1024_S162x1_S162x1024_1_0_n_n_0_1_11024 x idx (ix2 t j) = x (ix2 e j) := by
  unfold Host.gather
  refine congrArg x (funext fun a => Fin.ext ?_)
  show gather_S32x1024_S162x1_S162x1024_1_0_n_n_0_1_11024.start (ix2 t j) idx a + gather_S32x1024_S162x1_S162x1024_1_0_n_n_0_1_11024.batchCoord (ix2 t j) a + gather_S32x1024_S162x1_S162x1024_1_0_n_n_0_1_11024.offCoord (ix2 t j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ gather_S32x1024_S162x1_S162x1024_1_0_n_n_0_1_11024.startIndexMap from List.mem_singleton.mpr rfl)).trans ?_
    refine (congrArg (fun q => min (idx q).toInt.toNat 31) (?_ : _ = ix2 t (0 : Fin 1))).trans ?_
    · funext b; refine Fin.ext ?_
      match b with
      | ⟨0, _⟩ => rfl
      | ⟨1, _⟩ => rfl
    · show min (idx (ix2 t 0)).toInt.toNat 31 = e.val
      rw [h]; omega
  | ⟨1, _⟩ =>
    unfold GatherDims.start GatherDims.offCoord
    exact (congrArg₂ (· + ·) (dif_neg (show (1 : Fin 2) ∉ gather_S32x1024_S162x1_S162x1024_1_0_n_n_0_1_11024.startIndexMap by decide)) (dif_pos (show (1 : Fin 2) ∈ gather_S32x1024_S162x1_S162x1024_1_0_n_n_0_1_11024.sKept by decide))).trans (Nat.zero_add _)

variable (x0 : IVec S162 32) (x1 : IVec S1 32) (x2 : FVec Ideal S82944x1024 .f32) (x3 : FVec Ideal S82944x1 .f32)
  (x4 : FVec Ideal S2x32x1024x2048 .f32) (x5 : FVec Ideal S2x32x2048 .f32) (x6 : FVec Ideal S2x32x1024x1024 .f32) (x7 : FVec Ideal S2x32x1024 .f32)
  (e : Fin 162 → Fin 32) (he : ∀ t, (x0 (ix1 t)).toNat = (e t).val)

theorem word_toInt (w : BitVec 32) (k : Fin 32) (h : w.toNat = k.val) : w.toInt = k.val := by
  rw [BitVec.toInt_eq_toNat_of_lt (by have := k.isLt; omega), h]

/-- A word that names an expert is not below zero, so the wrapped index is the word. -/
theorem wrapped (w : BitVec 32) (k : Fin 32) (h : w.toNat = k.val) (y : BitVec 32) :
    Scalar.select (IntOp.cmpi .slt w 0#32) y w = w := by
  have hs : w.slt 0#32 = false := by
    rw [BitVec.slt_eq_decide, word_toInt w k h]; simp
  show (if BitVec.ofBool (w.slt 0#32) = 1#1 then y else w) = w
  rw [hs]; rfl

include he in
theorem index_8 (t : Fin 162) : (val_main_v8 (F := Ideal) x0 (ix2 t 0)).toInt.toNat = (e t).val := by
  have hi : idx_main_v8 (ix2 t 0) = ix1 t := by
    funext a; match a with | ⟨0, _⟩ => rfl
  rw [val_main_v8_apply, hi, val_main_v7_apply, val_main_v4_apply, val_main_v3_apply, val_main_c_apply, wrapped _ _ (he t), word_toInt _ _ (he t)]
  rfl

include he in
theorem index_18 (t : Fin 162) : (val_main_v18 (F := Ideal) x0 (ix2 t 0)).toInt.toNat = (e t).val := by
  have hi : idx_main_v18 (ix2 t 0) = ix1 t := by
    funext a; match a with | ⟨0, _⟩ => rfl
  rw [val_main_v18_apply, hi, val_main_v17_apply, val_main_v14_apply, val_main_v13_apply, val_main_c_1_apply, wrapped _ _ (he t), word_toInt _ _ (he t)]
  rfl

include he in
theorem index_47 (t : Fin 162) : (val_main_v47 (F := Ideal) x0 (ix2 t 0)).toInt.toNat = (e t).val := by
  have hi : idx_main_v47 (ix2 t 0) = ix1 t := by
    funext a; match a with | ⟨0, _⟩ => rfl
  rw [val_main_v47_apply, hi, val_main_v46_apply, val_main_v43_apply, val_main_v42_apply, val_main_c_9_apply, wrapped _ _ (he t), word_toInt _ _ (he t)]
  rfl

include he in
theorem index_57 (t : Fin 162) : (val_main_v57 (F := Ideal) x0 (ix2 t 0)).toInt.toNat = (e t).val := by
  have hi : idx_main_v57 (ix2 t 0) = ix1 t := by
    funext a; match a with | ⟨0, _⟩ => rfl
  rw [val_main_v57_apply, hi, val_main_v56_apply, val_main_v53_apply, val_main_v52_apply, val_main_c_11_apply, wrapped _ _ (he t), word_toInt _ _ (he t)]
  rfl

include he in
/-- Column `j` of the first product, with its bias. -/
theorem v22_spec (t : Fin 162) (r : Fin 512) (j : Fin 2048) :
    val_main_v22 (F := Ideal) x0 x2 x4 x5 (ix3 t r j) = upGate e x2 x4 x5 t r j := by
  rw [val_main_v22_apply]
  refine congrArg₂ (· + ·) ?_ ?_
  · rw [val_main_v10_apply]
    refine Finset.sum_congr rfl fun d _ => congrArg₂ (· * ·) ?_ ?_
    · rw [val_main_v0_apply]
      refine congrArg x2 (funext fun a => Fin.ext ?_)
      match a with
      | ⟨0, _⟩ => show ((t.val * 512 + r.val) * 1024 + d.val) / 1024 = 512 * t.val + r.val; omega
      | ⟨1, _⟩ => show ((t.val * 512 + r.val) * 1024 + d.val) % 1024 = d.val; omega
    · have hr : ridx_main_v10 (ix3 t r j) d = ix3 t d j := by
        funext a; match a with | ⟨0, _⟩ => rfl | ⟨1, _⟩ => rfl | ⟨2, _⟩ => rfl
      rw [hr, val_main_v9, gather_up _ _ (e t) t d j (index_8 x0 e he t), val_main_v2_apply, val_main_v1_apply]
      refine congrArg x4 (funext fun a => Fin.ext ?_)
      have h0 := (e t).isLt
      match a with
      | ⟨0, _⟩ => rfl
      | ⟨1, _⟩ => show (((e t).val * 1024 + d.val) * 2048 + j.val) / 2097152 % 32 = (e t).val; omega
      | ⟨2, _⟩ => show (((e t).val * 1024 + d.val) * 2048 + j.val) / 2048 % 1024 = d.val; omega
      | ⟨3, _⟩ => show (((e t).val * 1024 + d.val) * 2048 + j.val) % 2048 = j.val; omega
  · have hr : idx_main_v20 (idx_main_v21 (ix3 t r j)) = ix2 t j := by
      funext a; match a with | ⟨0, _⟩ => rfl | ⟨1, _⟩ => rfl
    rw [val_main_v21_apply, val_main_v20_apply, hr, val_main_v19, gather_up_bias _ _ (e t) t j (index_18 x0 e he t), val_main_v12_apply, val_main_v11_apply]
    refine congrArg x5 (funext fun a => Fin.ext ?_)
    have h0 := (e t).isLt
    match a with
    | ⟨0, _⟩ => rfl
    | ⟨1, _⟩ => show ((e t).val * 2048 + j.val) / 2048 % 32 = (e t).val; omega
    | ⟨2, _⟩ => show ((e t).val * 2048 + j.val) % 2048 = j.val; omega

include he in
theorem v23_spec (t : Fin 162) (r : Fin 512) (f : Fin 1024) :
    val_main_v23 (F := Ideal) x0 x2 x4 x5 (ix3 t r f) = upGate e x2 x4 x5 t r ⟨2 * f.val, by omega⟩ := by
  rw [← v22_spec x0 x2 x4 x5 e he]
  unfold val_main_v23
  refine congrArg (val_main_v22 (F := Ideal) x0 x2 x4 x5) (funext fun a => Fin.ext ?_)
  match a with
  | ⟨0, _⟩ => show 0 + 1 * t.val = t.val; omega
  | ⟨1, _⟩ => show 0 + 1 * r.val = r.val; omega
  | ⟨2, _⟩ => show 0 + 2 * f.val = 2 * f.val; omega

include he in
theorem v26_spec (t : Fin 162) (r : Fin 512) (f : Fin 1024) :
    val_main_v26 (F := Ideal) x0 x2 x4 x5 (ix3 t r f) = upGate e x2 x4 x5 t r ⟨2 * f.val + 1, by omega⟩ := by
  rw [← v22_spec x0 x2 x4 x5 e he]
  unfold val_main_v26
  refine congrArg (val_main_v22 (F := Ideal) x0 x2 x4 x5) (funext fun a => Fin.ext ?_)
  match a with
  | ⟨0, _⟩ => show 0 + 1 * t.val = t.val; omega
  | ⟨1, _⟩ => show 0 + 1 * r.val = r.val; omega
  | ⟨2, _⟩ => show 1 + 2 * f.val = 2 * f.val + 1; omega

include he in
theorem v39_spec (t : Fin 162) (r : Fin 512) (f : Fin 1024) :
    val_main_v39 (F := Ideal) x0 x2 x4 x5 (ix3 t r f) = activation e x2 x4 x5 t r f := by
  have h25 : val_main_v25 (F := Ideal) x0 x2 x4 x5 (ix3 t r f) = min (upGate e x2 x4 x5 t r ⟨2 * f.val, by omega⟩) (Ideal.ofBits .f32 0x40E00000#32) := by
    rw [val_main_v25_apply, v23_spec x0 x2 x4 x5 e he, val_main_v24_apply, val_main_cst_apply]; rfl
  have h27 : val_main_v27 (F := Ideal) x0 x2 x4 x5 (ix3 t r f) = min (Ideal.ofBits .f32 0x40E00000#32) (max (Ideal.ofBits .f32 0xC0E00000#32) (upGate e x2 x4 x5 t r ⟨2 * f.val + 1, by omega⟩)) := by
    rw [val_main_v27_apply, val_main_call0_v4_apply, val_main_call0_v3_apply, val_main_cst_4_apply, val_main_call0_v2_apply,
      val_main_call0_v1_apply, val_main_call0_v0_apply, val_main_cst_3_apply, v26_spec x0 x2 x4 x5 e he]; rfl
  rw [val_main_v39_apply, val_main_v36_apply, val_main_v35_apply, val_main_v34_apply, val_main_cst_7_apply, val_main_v33_apply,
    val_main_v32_apply, val_main_cst_6_apply, val_main_v31_apply, val_main_v30_apply, val_main_v29_apply, val_main_v28_apply, val_main_cst_5_apply,
    val_main_v38_apply, val_main_v37_apply, val_main_cst_8_apply, h25, h27]
  rfl

include he in
theorem v64_spec (t : Fin 162) (r : Fin 512) (c : Fin 1024) :
    val_main_v64 (F := Ideal) x0 x2 x3 x4 x5 x6 x7 (ix3 t r c) = expert e x2 x3 x4 x5 x6 x7 t r c := by
  rw [val_main_v64_apply, val_main_v61_apply]
  refine congrArg₂ (· * ·) (congrArg₂ (· + ·) ?_ ?_) ?_
  · rw [val_main_v49_apply]
    refine Finset.sum_congr rfl fun f _ => congrArg₂ (· * ·) ?_ ?_
    · have hl : lidx_main_v49 (ix3 t r c) f = ix3 t r f := by
        funext a; match a with | ⟨0, _⟩ => rfl | ⟨1, _⟩ => rfl | ⟨2, _⟩ => rfl
      rw [hl, v39_spec x0 x2 x4 x5 e he]
    · have hr : ridx_main_v49 (ix3 t r c) f = ix3 t f c := by
        funext a; match a with | ⟨0, _⟩ => rfl | ⟨1, _⟩ => rfl | ⟨2, _⟩ => rfl
      rw [hr, val_main_v48, gather_down _ _ (e t) t f c (index_47 x0 e he t), val_main_v41_apply, val_main_v40_apply]
      refine congrArg x6 (funext fun a => Fin.ext ?_)
      have h0 := (e t).isLt
      match a with
      | ⟨0, _⟩ => rfl
      | ⟨1, _⟩ => show (((e t).val * 1024 + f.val) * 1024 + c.val) / 1048576 % 32 = (e t).val; omega
      | ⟨2, _⟩ => show (((e t).val * 1024 + f.val) * 1024 + c.val) / 1024 % 1024 = f.val; omega
      | ⟨3, _⟩ => show (((e t).val * 1024 + f.val) * 1024 + c.val) % 1024 = c.val; omega
  · have hr : idx_main_v59 (idx_main_v60 (ix3 t r c)) = ix2 t c := by
      funext a; match a with | ⟨0, _⟩ => rfl | ⟨1, _⟩ => rfl
    rw [val_main_v60_apply, val_main_v59_apply, hr, val_main_v58, gather_down_bias _ _ (e t) t c (index_57 x0 e he t), val_main_v51_apply, val_main_v50_apply]
    refine congrArg x7 (funext fun a => Fin.ext ?_)
    have h0 := (e t).isLt
    match a with
    | ⟨0, _⟩ => rfl
    | ⟨1, _⟩ => show ((e t).val * 1024 + c.val) / 1024 % 32 = (e t).val; omega
    | ⟨2, _⟩ => show ((e t).val * 1024 + c.val) % 1024 = c.val; omega
  · rw [val_main_v63_apply, val_main_v62_apply]
    refine congrArg x3 (funext fun a => Fin.ext ?_)
    match a with
    | ⟨0, _⟩ => show ((t.val * 512 + r.val) * 1 + 0) / 1 = 512 * t.val + r.val; omega
    | ⟨1, _⟩ => rfl

theorem v67_spec (i : S_.Idx) : val_main_v67 (F := Ideal) x1 i = x1 (ix1 0) :=
  shapeCast_apply x1 shapeCasts_S1_S_ i (ix1 0) (by rw [Shape.rowMajor_val_one]; exact (Nat.lt_one_iff.mp (Fin.isLt _)).symm)

include he in
/-- The reference's result is the layer. -/
theorem result_spec (t : Fin 162) (r : Fin 512) (c : Fin 1024) :
    val_main_v72 (F := Ideal) x0 x1 x2 x3 x4 x5 x6 x7 (ix2 (slot t r) c) = layer e x2 x3 x4 x5 x6 x7 (x1 (ix1 0)) t r c := by
  have hi : idx_main_v71 (ix2 (slot t r) c) = ix3 t r c := by
    funext a; refine Fin.ext ?_
    match a with
    | ⟨0, _⟩ => show ((512 * t.val + r.val) * 1024 + c.val) / 524288 = t.val; omega
    | ⟨1, _⟩ => show ((512 * t.val + r.val) * 1024 + c.val) / 1024 % 512 = r.val; omega
    | ⟨2, _⟩ => show ((512 * t.val + r.val) * 1024 + c.val) % 1024 = c.val; omega
  have hm : val_main_call1_v1 (F := Ideal) x1 (ix3 t r c) = BitVec.ofBool ((BitVec.ofNat 32 t.val).slt (x1 (ix1 0))) := by
    rw [val_main_call1_v1_apply, val_main_v69_apply, val_main_v66_apply, val_main_v65_apply, val_main_v68_apply, v67_spec]; rfl
  have hz : val_main_call1_v2 (F := Ideal) (ix3 t r c) = (0 : EReal) := by
    rw [val_main_call1_v2_apply, val_main_call1_v0_apply, val_main_cst_13_apply]
    show Ideal.ofBits .f32 0x00000000#32 = 0
    simp [Ideal.ofBits, Ideal.ieee]
  rw [val_main_v72_apply, val_main_v71_apply, hi, val_main_v70_apply, hm, hz, v64_spec x0 x2 x3 x4 x5 x6 x7 e he]
  unfold layer
  cases (BitVec.ofNat 32 t.val).slt (x1 (ix1 0)) <;> rfl

end Cert.Reference2Ideal.Read

end
-- ==== Proof.ExpertsRun.lean ====
module

public import proofs.«01_k».proof.Proof.Gen.Kernel2Ideal.Launch
public import proofs.«01_k».proof.Proof.Gen.Kernel2Ideal.Skeleton
public import Idealize.ShloMosaic.Lib.Exec
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option Elab.async false

noncomputable section

/-! The body of the experts call, run once for each way its conditions fall. -/

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the two scratch buffers, whole. -/
abbrev tbE : Memref sig .tc .smem S162 .i32 := Memref.whole main_arg0
abbrev tbN : Memref sig .tc .smem S1 .i32 := Memref.whole main_arg1
abbrev scW1 : Memref sig .tc .vmem S1024x2048 .bf16 := Memref.whole cc0_scratch0
abbrev scW2 : Memref sig .tc .vmem S1024x1024 .bf16 := Memref.whole cc0_scratch1

/-- The words the body reads at point `i`: its expert, the expert of the point before, and the number of blocks in use. -/
abbrev expertAt (i : grid0.Coords) (T0 : S162.Idx → Elt F .i32) : BitVec 32 :=
  View.readAt (Elt F) tbE.view (Rect.unit (s := S162) (k0_off1 i) S1.size (k0_off1_inb i)).toLoadRect T0 (Shape.Idx.first (numel1_S1.symm ▸ Nat.one_pos))
abbrev expertBefore (i : grid0.Coords) (T0 : S162.Idx → Elt F .i32) : BitVec 32 :=
  View.readAt (Elt F) tbE.view (Rect.unit (s := S162) (k0_off2 i) S1.size (k0_off2_inb i)).toLoadRect T0 (Shape.Idx.first (numel1_S1.symm ▸ Nat.one_pos))
abbrev used (T1 : S1.Idx → Elt F .i32) : BitVec 32 :=
  View.readAt (Elt F) tbN.view (Rect.unit (s := S1) ![0] S1.size inb_S1_S1_0).toLoadRect T1 (Shape.Idx.first (numel1_S1.symm ▸ Nat.one_pos))

/-- Whether the body refills the scratch at point `i`: the first point, or the expert changes. -/
abbrev Refills (i : grid0.Coords) (T0 : S162.Idx → Elt F .i32) : Prop :=
  Scalar.cmpi .ne (Scalar.extui (Scalar.ori (Scalar.cmpi .eq (BitVec.ofNat 32 (i 0).val) 0#32) (Scalar.cmpi .ne (expertAt (F := F) i T0) (expertBefore (F := F) i T0)))) 0#32 = 1#1

set_option maxHeartbeats 8000000 in
/-- Refill, then compute. -/
def runAC (c : Dev nD) (i : grid0.Coords) (arg3 : Memref sig .tc .vmem S512x1024 .f32) (harg3 : arg3.IsWhole) (arg4 : Memref sig .tc .vmem S512x1 .f32) (harg4 : arg4.IsWhole) (arg5 : Memref sig .tc .vmem S1x1x1024x2048 .f32) (harg5 : arg5.IsWhole) (arg6 : Memref sig .tc .vmem S256x256 .bf16) (harg6 : arg6.IsWhole) (arg7 : Memref sig .tc .vmem S1x1x1x2048 .f32) (harg7 : arg7.IsWhole) (arg8 : Memref sig .tc .vmem S1x1x1024x1024 .f32) (harg8 : arg8.IsWhole) (arg9 : Memref sig .tc .vmem S1x1x1x1024 .f32) (harg9 : arg9.IsWhole) (arg10 : Memref sig .tc .vmem S512x1024 .bf16) (harg10 : arg10.IsWhole)
    (x0 : Vec F S512x1024 .f32) (x1 : Vec F S512x1 .f32) (x2 : Vec F S1x1x1024x2048 .f32) (x3 : Vec F S256x256 .bf16) (x4 : Vec F S1x1x1x2048 .f32) (x5 : Vec F S1x1x1024x1024 .f32) (x6 : Vec F S1x1x1x1024 .f32) :
    Σ' (out0 : List (View.Piece (Elt F) S512x1024 .bf16)) (out1 : List (View.Piece (Elt F) S1024x2048 .bf16)), { out2 : List (View.Piece (Elt F) S1024x1024 .bf16) //
      ∀ (T0 : S162.Idx → Elt F .i32) (T1 : S1.Idx → Elt F .i32) (h0 : Refills (F := F) i T0) (h2 : k0_cond2 i (used (F := F) T1) = 1#1) (h3 : ¬ k0_cond3 i (used (F := F) T1) = 1#1)
        (xa0 : Buf (Elt F) ((c : Thread nD τ).loc cc0_scratch0)) (xa1 : Buf (Elt F) ((c : Thread nD τ).loc cc0_scratch1)) (f10 : BufTy.Contents (Elt F) arg10.view.ty) (E : Set ℕ) (K : PUnit → sProp 𝕄),
        iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6)
            ∗ (tbE.view.loc (c : Thread nD τ) ↦{fullShare.right} T0) ∗ (tbN.view.loc (c : Thread nD τ) ↦{fullShare.right} T1)
            ∗ (arg10.view.loc (c : Thread nD τ) ↦[arg10.view.set]{fullShare} f10)
            ∗ (scW1.view.loc (c : Thread nD τ) ↦{fullShare} xa0) ∗ (scW2.view.loc (c : Thread nD τ) ↦{fullShare} xa1)
            ∗ (iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6)
                ∗ (tbE.view.loc (c : Thread nD τ) ↦{fullShare.right} T0) ∗ (tbN.view.loc (c : Thread nD τ) ↦{fullShare.right} T1)
                ∗ (arg10.view.loc (c : Thread nD τ) ↦[arg10.view.set]{fullShare} arg10.view.writes (Elt F) f10 out0)
                ∗ (scW1.view.loc (c : Thread nD τ) ↦{fullShare} scW1.view.writes (Elt F) xa0 out1) ∗ (scW2.view.loc (c : Thread nD τ) ↦{fullShare} scW2.view.writes (Elt F) xa1 out2)) -∗ K ⟨⟩))
          ⊢ wp frame (wpE (defs₀ (F := F)) Variants.none c none) E (cc0_moe_experts i tbE (Memref.isWhole_whole _) tbN (Memref.isWhole_whole _) arg3 harg3 arg4 harg4 arg5 harg5 arg6 harg6 arg7 harg7 arg8 harg8 arg9 harg9 arg10 harg10 scW1 (Memref.isWhole_whole _) scW2 (Memref.isWhole_whole _)) K } := by
  refine ⟨?_, ?_, ?_, fun T0 T1 h0 h2 h3 xa0 xa1 f10 E K => ?run⟩
  case run =>
    rw [cc0_moe_experts_eq_skeleton]; unfold cc0_moe_experts_skel
    iintro ⟨H3, H4, H5, H6, H7, H8, H9, HT0, HT1, HO, HS0, HS1, Hk⟩
    have hS0 : scW1.IsWhole := Memref.isWhole_whole _
    have hS1 : scW2.IsWhole := Memref.isWhole_whole _
    have hT0 : tbE.IsWhole := Memref.isWhole_whole _
    have hT1 : tbN.IsWhole := Memref.isWhole_whole _
    sl_exec (disch := first | (guard_target = (Scalar.cmpi _ _ _ = _); exact h0) | (guard_target = (k0_cond2 _ _ = _); exact h2) | (guard_target = ¬(k0_cond3 _ _ = _); exact h3))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO]; · iexact HO
    isplitl [HS0]; · iexact HS0
    iexact HS1

set_option maxHeartbeats 8000000 in
/-- Refill, then zeros. -/
def runAZ (c : Dev nD) (i : grid0.Coords) (arg3 : Memref sig .tc .vmem S512x1024 .f32) (harg3 : arg3.IsWhole) (arg4 : Memref sig .tc .vmem S512x1 .f32) (harg4 : arg4.IsWhole) (arg5 : Memref sig .tc .vmem S1x1x1024x2048 .f32) (harg5 : arg5.IsWhole) (arg6 : Memref sig .tc .vmem S256x256 .bf16) (harg6 : arg6.IsWhole) (arg7 : Memref sig .tc .vmem S1x1x1x2048 .f32) (harg7 : arg7.IsWhole) (arg8 : Memref sig .tc .vmem S1x1x1024x1024 .f32) (harg8 : arg8.IsWhole) (arg9 : Memref sig .tc .vmem S1x1x1x1024 .f32) (harg9 : arg9.IsWhole) (arg10 : Memref sig .tc .vmem S512x1024 .bf16) (harg10 : arg10.IsWhole)
    (x0 : Vec F S512x1024 .f32) (x1 : Vec F S512x1 .f32) (x2 : Vec F S1x1x1024x2048 .f32) (x3 : Vec F S256x256 .bf16) (x4 : Vec F S1x1x1x2048 .f32) (x5 : Vec F S1x1x1024x1024 .f32) (x6 : Vec F S1x1x1x1024 .f32) :
    Σ' (out0 : List (View.Piece (Elt F) S512x1024 .bf16)) (out1 : List (View.Piece (Elt F) S1024x2048 .bf16)), { out2 : List (View.Piece (Elt F) S1024x1024 .bf16) //
      ∀ (T0 : S162.Idx → Elt F .i32) (T1 : S1.Idx → Elt F .i32) (h0 : Refills (F := F) i T0) (h2 : ¬ k0_cond2 i (used (F := F) T1) = 1#1) (h3 : k0_cond3 i (used (F := F) T1) = 1#1)
        (xa0 : Buf (Elt F) ((c : Thread nD τ).loc cc0_scratch0)) (xa1 : Buf (Elt F) ((c : Thread nD τ).loc cc0_scratch1)) (f10 : BufTy.Contents (Elt F) arg10.view.ty) (E : Set ℕ) (K : PUnit → sProp 𝕄),
        iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6)
            ∗ (tbE.view.loc (c : Thread nD τ) ↦{fullShare.right} T0) ∗ (tbN.view.loc (c : Thread nD τ) ↦{fullShare.right} T1)
            ∗ (arg10.view.loc (c : Thread nD τ) ↦[arg10.view.set]{fullShare} f10)
            ∗ (scW1.view.loc (c : Thread nD τ) ↦{fullShare} xa0) ∗ (scW2.view.loc (c : Thread nD τ) ↦{fullShare} xa1)
            ∗ (iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6)
                ∗ (tbE.view.loc (c : Thread nD τ) ↦{fullShare.right} T0) ∗ (tbN.view.loc (c : Thread nD τ) ↦{fullShare.right} T1)
                ∗ (arg10.view.loc (c : Thread nD τ) ↦[arg10.view.set]{fullShare} arg10.view.writes (Elt F) f10 out0)
                ∗ (scW1.view.loc (c : Thread nD τ) ↦{fullShare} scW1.view.writes (Elt F) xa0 out1) ∗ (scW2.view.loc (c : Thread nD τ) ↦{fullShare} scW2.view.writes (Elt F) xa1 out2)) -∗ K ⟨⟩))
          ⊢ wp frame (wpE (defs₀ (F := F)) Variants.none c none) E (cc0_moe_experts i tbE (Memref.isWhole_whole _) tbN (Memref.isWhole_whole _) arg3 harg3 arg4 harg4 arg5 harg5 arg6 harg6 arg7 harg7 arg8 harg8 arg9 harg9 arg10 harg10 scW1 (Memref.isWhole_whole _) scW2 (Memref.isWhole_whole _)) K } := by
  refine ⟨?_, ?_, ?_, fun T0 T1 h0 h2 h3 xa0 xa1 f10 E K => ?run⟩
  case run =>
    rw [cc0_moe_experts_eq_skeleton]; unfold cc0_moe_experts_skel
    iintro ⟨H3, H4, H5, H6, H7, H8, H9, HT0, HT1, HO, HS0, HS1, Hk⟩
    have hS0 : scW1.IsWhole := Memref.isWhole_whole _
    have hS1 : scW2.IsWhole := Memref.isWhole_whole _
    have hT0 : tbE.IsWhole := Memref.isWhole_whole _
    have hT1 : tbN.IsWhole := Memref.isWhole_whole _
    sl_exec (disch := first | (guard_target = (Scalar.cmpi _ _ _ = _); exact h0) | (guard_target = ¬(k0_cond2 _ _ = _); exact h2) | (guard_target = (k0_cond3 _ _ = _); exact h3))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO]; · iexact HO
    isplitl [HS0]; · iexact HS0
    iexact HS1

set_option maxHeartbeats 8000000 in
/-- No refill; compute from the scratch as it is. -/
def runBC (c : Dev nD) (i : grid0.Coords) (arg3 : Memref sig .tc .vmem S512x1024 .f32) (harg3 : arg3.IsWhole) (arg4 : Memref sig .tc .vmem S512x1 .f32) (harg4 : arg4.IsWhole) (arg5 : Memref sig .tc .vmem S1x1x1024x2048 .f32) (harg5 : arg5.IsWhole) (arg6 : Memref sig .tc .vmem S256x256 .bf16) (harg6 : arg6.IsWhole) (arg7 : Memref sig .tc .vmem S1x1x1x2048 .f32) (harg7 : arg7.IsWhole) (arg8 : Memref sig .tc .vmem S1x1x1024x1024 .f32) (harg8 : arg8.IsWhole) (arg9 : Memref sig .tc .vmem S1x1x1x1024 .f32) (harg9 : arg9.IsWhole) (arg10 : Memref sig .tc .vmem S512x1024 .bf16) (harg10 : arg10.IsWhole)
    (x0 : Vec F S512x1024 .f32) (x1 : Vec F S512x1 .f32) (x2 : Vec F S1x1x1024x2048 .f32) (x3 : Vec F S256x256 .bf16) (x4 : Vec F S1x1x1x2048 .f32) (x5 : Vec F S1x1x1024x1024 .f32) (x6 : Vec F S1x1x1x1024 .f32) (xa0 : Buf (Elt F) ((c : Thread nD τ).loc cc0_scratch0)) (xa1 : Buf (Elt F) ((c : Thread nD τ).loc cc0_scratch1)) :
    { out0 : List (View.Piece (Elt F) S512x1024 .bf16) //
      ∀ (T0 : S162.Idx → Elt F .i32) (T1 : S1.Idx → Elt F .i32) (h0 : ¬ Refills (F := F) i T0) (h2 : k0_cond2 i (used (F := F) T1) = 1#1) (h3 : ¬ k0_cond3 i (used (F := F) T1) = 1#1)
         (f10 : BufTy.Contents (Elt F) arg10.view.ty) (E : Set ℕ) (K : PUnit → sProp 𝕄),
        iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6)
            ∗ (tbE.view.loc (c : Thread nD τ) ↦{fullShare.right} T0) ∗ (tbN.view.loc (c : Thread nD τ) ↦{fullShare.right} T1)
            ∗ (arg10.view.loc (c : Thread nD τ) ↦[arg10.view.set]{fullShare} f10)
            ∗ (scW1.view.loc (c : Thread nD τ) ↦{fullShare} xa0) ∗ (scW2.view.loc (c : Thread nD τ) ↦{fullShare} xa1)
            ∗ (iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6)
                ∗ (tbE.view.loc (c : Thread nD τ) ↦{fullShare.right} T0) ∗ (tbN.view.loc (c : Thread nD τ) ↦{fullShare.right} T1)
                ∗ (arg10.view.loc (c : Thread nD τ) ↦[arg10.view.set]{fullShare} arg10.view.writes (Elt F) f10 out0)
                ∗ (scW1.view.loc (c : Thread nD τ) ↦{fullShare} xa0) ∗ (scW2.view.loc (c : Thread nD τ) ↦{fullShare} xa1)) -∗ K ⟨⟩))
          ⊢ wp frame (wpE (defs₀ (F := F)) Variants.none c none) E (cc0_moe_experts i tbE (Memref.isWhole_whole _) tbN (Memref.isWhole_whole _) arg3 harg3 arg4 harg4 arg5 harg5 arg6 harg6 arg7 harg7 arg8 harg8 arg9 harg9 arg10 harg10 scW1 (Memref.isWhole_whole _) scW2 (Memref.isWhole_whole _)) K } := by
  refine ⟨?_, fun T0 T1 h0 h2 h3 f10 E K => ?run⟩
  case run =>
    rw [cc0_moe_experts_eq_skeleton]; unfold cc0_moe_experts_skel
    iintro ⟨H3, H4, H5, H6, H7, H8, H9, HT0, HT1, HO, HS0, HS1, Hk⟩
    have hS0 : scW1.IsWhole := Memref.isWhole_whole _
    have hS1 : scW2.IsWhole := Memref.isWhole_whole _
    have hT0 : tbE.IsWhole := Memref.isWhole_whole _
    have hT1 : tbN.IsWhole := Memref.isWhole_whole _
    sl_exec (disch := first | (guard_target = ¬(Scalar.cmpi _ _ _ = _); exact h0) | (guard_target = (k0_cond2 _ _ = _); exact h2) | (guard_target = ¬(k0_cond3 _ _ = _); exact h3))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO]; · iexact HO
    isplitl [HS0]; · iexact HS0
    iexact HS1

set_option maxHeartbeats 8000000 in
/-- No refill; zeros. -/
def runBZ (c : Dev nD) (i : grid0.Coords) (arg3 : Memref sig .tc .vmem S512x1024 .f32) (harg3 : arg3.IsWhole) (arg4 : Memref sig .tc .vmem S512x1 .f32) (harg4 : arg4.IsWhole) (arg5 : Memref sig .tc .vmem S1x1x1024x2048 .f32) (harg5 : arg5.IsWhole) (arg6 : Memref sig .tc .vmem S256x256 .bf16) (harg6 : arg6.IsWhole) (arg7 : Memref sig .tc .vmem S1x1x1x2048 .f32) (harg7 : arg7.IsWhole) (arg8 : Memref sig .tc .vmem S1x1x1024x1024 .f32) (harg8 : arg8.IsWhole) (arg9 : Memref sig .tc .vmem S1x1x1x1024 .f32) (harg9 : arg9.IsWhole) (arg10 : Memref sig .tc .vmem S512x1024 .bf16) (harg10 : arg10.IsWhole)
    (x0 : Vec F S512x1024 .f32) (x1 : Vec F S512x1 .f32) (x2 : Vec F S1x1x1024x2048 .f32) (x3 : Vec F S256x256 .bf16) (x4 : Vec F S1x1x1x2048 .f32) (x5 : Vec F S1x1x1024x1024 .f32) (x6 : Vec F S1x1x1x1024 .f32) (xa0 : Buf (Elt F) ((c : Thread nD τ).loc cc0_scratch0)) (xa1 : Buf (Elt F) ((c : Thread nD τ).loc cc0_scratch1)) :
    { out0 : List (View.Piece (Elt F) S512x1024 .bf16) //
      ∀ (T0 : S162.Idx → Elt F .i32) (T1 : S1.Idx → Elt F .i32) (h0 : ¬ Refills (F := F) i T0) (h2 : ¬ k0_cond2 i (used (F := F) T1) = 1#1) (h3 : k0_cond3 i (used (F := F) T1) = 1#1)
         (f10 : BufTy.Contents (Elt F) arg10.view.ty) (E : Set ℕ) (K : PUnit → sProp 𝕄),
        iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6)
            ∗ (tbE.view.loc (c : Thread nD τ) ↦{fullShare.right} T0) ∗ (tbN.view.loc (c : Thread nD τ) ↦{fullShare.right} T1)
            ∗ (arg10.view.loc (c : Thread nD τ) ↦[arg10.view.set]{fullShare} f10)
            ∗ (scW1.view.loc (c : Thread nD τ) ↦{fullShare} xa0) ∗ (scW2.view.loc (c : Thread nD τ) ↦{fullShare} xa1)
            ∗ (iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2) ∗ (arg6.view.loc (c : Thread nD τ) ↦[arg6.view.set]{fullShare} arg6.view.rep x3) ∗ (arg7.view.loc (c : Thread nD τ) ↦[arg7.view.set]{fullShare} arg7.view.rep x4) ∗ (arg8.view.loc (c : Thread nD τ) ↦[arg8.view.set]{fullShare} arg8.view.rep x5) ∗ (arg9.view.loc (c : Thread nD τ) ↦[arg9.view.set]{fullShare} arg9.view.rep x6)
                ∗ (tbE.view.loc (c : Thread nD τ) ↦{fullShare.right} T0) ∗ (tbN.view.loc (c : Thread nD τ) ↦{fullShare.right} T1)
                ∗ (arg10.view.loc (c : Thread nD τ) ↦[arg10.view.set]{fullShare} arg10.view.writes (Elt F) f10 out0)
                ∗ (scW1.view.loc (c : Thread nD τ) ↦{fullShare} xa0) ∗ (scW2.view.loc (c : Thread nD τ) ↦{fullShare} xa1)) -∗ K ⟨⟩))
          ⊢ wp frame (wpE (defs₀ (F := F)) Variants.none c none) E (cc0_moe_experts i tbE (Memref.isWhole_whole _) tbN (Memref.isWhole_whole _) arg3 harg3 arg4 harg4 arg5 harg5 arg6 harg6 arg7 harg7 arg8 harg8 arg9 harg9 arg10 harg10 scW1 (Memref.isWhole_whole _) scW2 (Memref.isWhole_whole _)) K } := by
  refine ⟨?_, fun T0 T1 h0 h2 h3 f10 E K => ?run⟩
  case run =>
    rw [cc0_moe_experts_eq_skeleton]; unfold cc0_moe_experts_skel
    iintro ⟨H3, H4, H5, H6, H7, H8, H9, HT0, HT1, HO, HS0, HS1, Hk⟩
    have hS0 : scW1.IsWhole := Memref.isWhole_whole _
    have hS1 : scW2.IsWhole := Memref.isWhole_whole _
    have hT0 : tbE.IsWhole := Memref.isWhole_whole _
    have hT1 : tbN.IsWhole := Memref.isWhole_whole _
    sl_exec (disch := first | (guard_target = ¬(Scalar.cmpi _ _ _ = _); exact h0) | (guard_target = ¬(k0_cond2 _ _ = _); exact h2) | (guard_target = (k0_cond3 _ _ = _); exact h3))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    isplitl [HO]; · iexact HO
    isplitl [HS0]; · iexact HS0
    iexact HS1

end Cert.Kernel2Ideal.Experts

end
-- ==== Proof.ExpertsBlock.lean ====
module

public import proofs.«01_k».proof.Proof.ExpertsRun
public import Idealize.ShloMosaic.Lib.VecWindow
public import Idealize.ShloMosaic.Lib.ValueIdx

@[expose] public section

set_option maxRecDepth 16384

noncomputable section

/-! What the experts call keeps in its scratch and what it writes, as functions of the blocks. -/

namespace Cert.Kernel2Ideal.Experts

open Cert.Kernel2Ideal Cert.Kernel2Ideal.Gen
open Idealize.ShloMosaic Idealize.ShloMosaic.TcCoe Idealize.ShloMosaic.Tactic Idealize.ShloMosaic.ValueIdx

variable {F : FTy → Type} [FloatOps F]

theorem gateUp_inb (k : Fin 8) : ∀ a, (![0, 0, 0, 256 * k.val] : Fin 4 → ℕ) a + S1x1x1024x256.size a ≤ S1x1x1024x2048.size a := fun a => by
  have := k.isLt
  match a with
  | ⟨0, _⟩ => show 0 + 1 ≤ 1; omega
  | ⟨1, _⟩ => show 0 + 1 ≤ 1; omega
  | ⟨2, _⟩ => show 0 + 1024 ≤ 1024; omega
  | ⟨3, _⟩ => show 256 * k.val + 256 ≤ 2048; omega

theorem bias_inb (k : Fin 8) : ∀ a, (![0, 0, 0, 256 * k.val] : Fin 4 → ℕ) a + S1x1x1x256.size a ≤ S1x1x1x2048.size a := fun a => by
  have := k.isLt
  match a with
  | ⟨0, _⟩ => show 0 + 1 ≤ 1; omega
  | ⟨1, _⟩ => show 0 + 1 ≤ 1; omega
  | ⟨2, _⟩ => show 0 + 1 ≤ 1; omega
  | ⟨3, _⟩ => show 256 * k.val + 256 ≤ 2048; omega

theorem cols_inb (k : Fin 8) : ∀ a, (![0, 256 * k.val] : Fin 2 → ℕ) a + S1024x256.size a ≤ S1024x2048.size a := fun a => by
  have := k.isLt
  match a with
  | ⟨0, _⟩ => show 0 + 1024 ≤ 1024; omega
  | ⟨1, _⟩ => show 256 * k.val + 256 ≤ 2048; omega

/-- Columns `256 k` to `256 k + 255` of the first weights, times the regrouping matrix, -/
def regrouped (x2 : Vec F S1x1x1024x2048 .f32) (x3 : Vec F S256x256 .bf16) (k : Fin 8) : Vec F S1024x256 .bf16 :=
  k0_pay6 (VecWindow.window x2 ![0, 0, 0, 256 * k.val] S1x1x1024x256.size (gateUp_inb k)) x3

/-- and the eight side by side: what the first scratch holds. -/
def firstWeights (x2 : Vec F S1x1x1024x2048 .f32) (x3 : Vec F S256x256 .bf16) : Vec F S1024x2048 .bf16 := fun y =>
  regrouped x2 x3 ⟨(y (1 : Fin 2)).val / 256, by have : (y (1 : Fin 2)).val < 2048 := (y 1).isLt; omega⟩
    (ix2 (y 0) ⟨(y (1 : Fin 2)).val % 256, Nat.mod_lt _ (by norm_num)⟩)

/-- Columns `256 k` to `256 k + 255` of the first scratch, -/
def scratchCols (s0 : Vec F S1024x2048 .bf16) (k : Fin 8) : Vec F S1024x256 .bf16 :=
  VecWindow.window s0 ![0, 256 * k.val] S1024x256.size (cols_inb k)

/-- and of the first bias. -/
def biasCols (x4 : Vec F S1x1x1x2048 .f32) (k : Fin 8) : Vec F S1x1x1x256 .f32 :=
  VecWindow.window x4 ![0, 0, 0, 256 * k.val] S1x1x1x256.size (bias_inb k)

/-- The block from eight pieces of the first weights and the first bias. -/
def outOf (x0 : Vec F S512x1024 .f32) (s : Fin 8 → Vec F S1024x256 .bf16) (b : Fin 8 → Vec F S1x1x1x256 .f32)
    (s1 : Vec F S1024x1024 .bf16) (x6 : Vec F S1x1x1x1024 .f32) (x1 : Vec F S512x1 .f32) : Vec F S512x1024 .bf16 :=
  k0_pay4 (k0_pay13 x0 (s 0) (b 0)) (k0_pay13 x0 (s 1) (b 1)) (k0_pay13 x0 (s 2) (b 2)) (k0_pay13 x0 (s 3) (b 3)) (k0_pay13 x0 (s 4) (b 4))
    (k0_pay13 x0 (s 5) (b 5)) (k0_pay13 x0 (s 6) (b 6)) (k0_pay32 (k0_pay12 x0) (s 7) (b 7)) (k0_pay33 (k0_pay12 x0) (s 7) (b 7)) k0_pay34 s1 x6 x1

/-- The block the body computes from its input blocks and the scratch. -/
def expertOut (x0 : Vec F S512x1024 .f32) (x1 : Vec F S512x1 .f32) (x4 : Vec F S1x1x1x2048 .f32) (x6 : Vec F S1x1x1x1024 .f32)
    (s0 : Vec F S1024x2048 .bf16) (s1 : Vec F S1024x1024 .bf16) : Vec F S512x1024 .bf16 :=
  outOf x0 (scratchCols s0) (biasCols x4) s1 x6 x1

theorem firstWeights_at (x2 : Vec F S1x1x1024x2048 .f32) (x3 : Vec F S256x256 .bf16) (k : Fin 8) (y : S1024x2048.Idx) (x : S1024x256.Idx)
    (h0 : (y (0 : Fin 2)).val = (x (0 : Fin 2)).val) (h1 : (y (1 : Fin 2)).val = 256 * k.val + (x (1 : Fin 2)).val) :
    regrouped x2 x3 k x = firstWeights x2 x3 y := by
  have hx : (x (1 : Fin 2)).val < 256 := (x 1).isLt
  unfold firstWeights
  congr 1
  · exact Fin.ext (show k.val = (y (1 : Fin 2)).val / 256 by omega)
  · funext a
    match a with
    | ⟨0, _⟩ => exact Fin.ext h0.symm
    | ⟨1, _⟩ => exact Fin.ext (show (x (1 : Fin 2)).val = (y (1 : Fin 2)).val % 256 by omega)

theorem piece_at (x2 : Vec F S1x1x1024x2048 .f32) (x3 : Vec F S256x256 .bf16) (k : Fin 8) {off : Fin 2 → ℕ} (hoff : off = ![0, 256 * k.val])
    (inb : ∀ a, off a + S1024x256.size a ≤ S1024x2048.size a) (w : Vec F S1024x256 .bf16) (hw : w = regrouped x2 x3 k) (x : S1024x256.Idx) :
    w x = firstWeights x2 x3 ((Rect.unit (s := S1024x2048) off S1024x256.size inb).emb x) := by
  subst hoff hw
  exact firstWeights_at x2 x3 k _ x (show 0 + 1 * (x (0 : Fin 2)).val = _ by omega) (show 256 * k.val + 1 * (x (1 : Fin 2)).val = _ by omega)

section
variable (arg3 : Memref sig .tc .vmem S512x1024 .f32) (arg4 : Memref sig .tc .vmem S512x1 .f32) (arg5 : Memref sig .tc .vmem S1x1x1024x2048 .f32)
  (arg6 : Memref sig .tc .vmem S256x256 .bf16) (arg7 : Memref sig .tc .vmem S1x1x1x2048 .f32) (arg8 : Memref sig .tc .vmem S1x1x1024x1024 .f32)
  (arg9 : Memref sig .tc .vmem S1x1x1x1024 .f32) (d : Dev nD)
  (x0 : Vec F S512x1024 .f32) (x1 : Vec F S512x1 .f32) (x2 : Vec F S1x1x1024x2048 .f32) (x3 : Vec F S256x256 .bf16) (x4 : Vec F S1x1x1x2048 .f32)
  (x5 : Vec F S1x1x1024x1024 .f32) (x6 : Vec F S1x1x1x1024 .f32)

theorem load_gateUp (k : Fin 8) {off : Fin 4 → ℕ} (h : off = ![0, 0, 0, 256 * k.val]) (inb : ∀ a, off a + S1x1x1024x256.size a ≤ S1x1x1024x2048.size a) (inb6 : ∀ a, (![0, 0] : Fin 2 → ℕ) a + S256x256.size a ≤ S256x256.size a) :
    k0_pay6 (arg5.view.readAt (Elt F) (Rect.unit (s := S1x1x1024x2048) off S1x1x1024x256.size inb).toLoadRect (arg5.view.rep x2))
      (arg6.view.readAt (Elt F) (Rect.unit (s := S256x256) ![0, 0] S256x256.size inb6).toLoadRect (arg6.view.rep x3)) = regrouped x2 x3 k := by
  rw [View.readAt_rep_unit arg5.view x2 inb h (gateUp_inb k), View.readAt_rep_full arg6.view x3]
  rfl

/-- The first scratch after the refill. -/
theorem read_refill (v : View sig .tc .vmem S1024x2048 .bf16) (f : v.ty.Contents (Elt F)) :
    v.read (Elt F) (v.writes (Elt F) f (runAC.sl.HS0_8 arg5 arg6 x2 x3)) = firstWeights x2 x3 := by
  funext y
  refine View.read_writes_apply_of_pieces v f (firstWeights x2 x3) _ ?_ y ?_
  · unfold runAC.sl.HS0_8
    refine List.forall_mem_cons.2 ⟨fun x => piece_at x2 x3 7 rfl inb_S1024x2048_S1024x256_0_1792 _ (load_gateUp arg5 arg6 x2 x3 7 rfl inb_S1x1x1024x2048_S1x1x1024x256_0_0_0_1792 _) x, ?_⟩
    refine List.forall_mem_cons.2 ⟨fun x => piece_at x2 x3 6 rfl inb_S1024x2048_S1024x256_0_1536 _ (load_gateUp arg5 arg6 x2 x3 6 rfl inb_S1x1x1024x2048_S1x1x1024x256_0_0_0_1536 _) x, ?_⟩
    refine List.forall_mem_cons.2 ⟨fun x => piece_at x2 x3 5 rfl inb_S1024x2048_S1024x256_0_1280 _ (load_gateUp arg5 arg6 x2 x3 5 rfl inb_S1x1x1024x2048_S1x1x1024x256_0_0_0_1280 _) x, ?_⟩
    refine List.forall_mem_cons.2 ⟨fun x => piece_at x2 x3 4 rfl inb_S1024x2048_S1024x256_0_1024 _ (load_gateUp arg5 arg6 x2 x3 4 rfl inb_S1x1x1024x2048_S1x1x1024x256_0_0_0_1024 _) x, ?_⟩
    refine List.forall_mem_cons.2 ⟨fun x => piece_at x2 x3 3 rfl inb_S1024x2048_S1024x256_0_768 _ (load_gateUp arg5 arg6 x2 x3 3 rfl inb_S1x1x1024x2048_S1x1x1024x256_0_0_0_768 _) x, ?_⟩
    refine List.forall_mem_cons.2 ⟨fun x => piece_at x2 x3 2 rfl inb_S1024x2048_S1024x256_0_512 _ (load_gateUp arg5 arg6 x2 x3 2 rfl inb_S1x1x1024x2048_S1x1x1024x256_0_0_0_512 _) x, ?_⟩
    refine List.forall_mem_cons.2 ⟨fun x => piece_at x2 x3 1 rfl inb_S1024x2048_S1024x256_0_256 _ (load_gateUp arg5 arg6 x2 x3 1 rfl inb_S1x1x1024x2048_S1x1x1024x256_0_0_0_256 _) x, ?_⟩
    refine List.forall_mem_cons.2 ⟨fun x => piece_at x2 x3 0 rfl inb_S1024x2048_S1024x256_0_0 _ (load_gateUp arg5 arg6 x2 x3 0 rfl inb_S1x1x1024x2048_S1x1x1024x256_0_0_0_0 _) x, ?_⟩
    exact fun p hp => absurd hp List.not_mem_nil
  · exact View.cover_of_tiledL (runAC.sl.HS0_8 arg5 arg6 x2 x3) S1024x256.size (by sl_kernel_rfl) y

/-- The second scratch after the refill. -/
theorem read_refill2 (v : View sig .tc .vmem S1024x1024 .bf16) (f : v.ty.Contents (Elt F)) :
    v.read (Elt F) (v.writes (Elt F) f (runAC.sl.HS1_1 arg8 x5)) = k0_pay3 x5 := by
  unfold runAC.sl.HS1_1
  rw [View.readAt_rep_full arg8.view x5]
  exact View.read_writes_full v f _ _ _

/-- A load of columns of the first bias. -/
theorem load_bias (k : Fin 8) {off : Fin 4 → ℕ} (h : off = ![0, 0, 0, 256 * k.val]) (inb : ∀ a, off a + S1x1x1x256.size a ≤ S1x1x1x2048.size a) :
    arg7.view.readAt (Elt F) (Rect.unit (s := S1x1x1x2048) off S1x1x1x256.size inb).toLoadRect (arg7.view.rep x4) = biasCols x4 k :=
  View.readAt_rep_unit arg7.view x4 inb h (bias_inb k)

/-- A load of columns of the first scratch. -/
theorem load_scratch (v : View sig .tc .vmem S1024x2048 .bf16) (f : v.ty.Contents (Elt F)) (s0 : Vec F S1024x2048 .bf16) (hf : v.read (Elt F) f = s0)
    (k : Fin 8) {off : Fin 2 → ℕ} (h : off = ![0, 256 * k.val]) (inb : ∀ a, off a + S1024x256.size a ≤ S1024x2048.size a) :
    v.readAt (Elt F) (Rect.unit (s := S1024x2048) off S1024x256.size inb).toLoadRect f = scratchCols s0 k := by
  rw [View.readAt_unit v f inb h (cols_inb k), hf]
  rfl

theorem load_covered (v : View sig .tc .vmem S1024x2048 .bf16) (k : Fin 8) {off : Fin 2 → ℕ} (h : off = ![0, 256 * k.val])
    (inb : ∀ a, off a + S1024x256.size a ≤ S1024x2048.size a) :
    v.readCov (runAC.sl.HS0_8 arg5 arg6 x2 x3) (Rect.unit (s := S1024x2048) off S1024x256.size inb).toLoadRect = scratchCols (firstWeights x2 x3) k :=
  load_scratch v _ _ (read_refill arg5 arg6 x2 x3 v _) k h inb

theorem load_covered2 (v : View sig .tc .vmem S1024x1024 .bf16) :
    v.readCov (runAC.sl.HS1_1 arg8 x5) (Rect.unit (s := S1024x1024) ![0, 0] S1024x1024.size inb_S1024x1024_S1024x1024_0_0).toLoadRect = k0_pay3 x5 :=
  (View.readAt_full v _ _).trans (read_refill2 arg8 x5 v _)

/-- Reading a whole buffer gives its contents. -/
theorem read_scratch (f : Buf (Elt F) ((d : Thread nD τ).loc cc0_scratch0)) : scW1.view.read (Elt F) f = f := rfl
theorem read_scratch2 (f : Buf (Elt F) ((d : Thread nD τ).loc cc0_scratch1)) : scW2.view.read (Elt F) f = f := rfl

/-! The pieces of the activation are one function of a piece of the weights and the bias. -/
theorem act_second (x0 : Vec F S512x1024 .f32) (s : Vec F S1024x256 .bf16) (b : Vec F S1x1x1x256 .f32) :
    k0_pay17 (k0_pay14 x0 s b) (k0_pay15 x0 s b) k0_pay16 = k0_pay13 x0 s b := rfl
theorem act_third (x0 : Vec F S512x1024 .f32) (s : Vec F S1024x256 .bf16) (b : Vec F S1x1x1x256 .f32) :
    k0_pay21 (k0_pay19 (k0_pay12 x0) s b) (k0_pay20 (k0_pay12 x0) s b) (Scalar.ofBits .f32 0x3F800000#32) = k0_pay13 x0 s b := rfl
theorem act_fourth (x0 : Vec F S512x1024 .f32) (s : Vec F S1024x256 .bf16) (b : Vec F S1x1x1x256 .f32) :
    k0_pay22 (k0_pay12 x0) s b = k0_pay13 x0 s b := rfl
theorem act_fifth (x0 : Vec F S512x1024 .f32) (s : Vec F S1024x256 .bf16) (b : Vec F S1x1x1x256 .f32) :
    k0_pay26 (k0_pay23 (k0_pay12 x0) s b) (k0_pay24 (k0_pay12 x0) s b) k0_pay25 = k0_pay13 x0 s b := rfl
theorem act_sixth (x0 : Vec F S512x1024 .f32) (s : Vec F S1024x256 .bf16) (b : Vec F S1x1x1x256 .f32) :
    k0_pay30 (k0_pay28 (k0_pay12 x0) s b) (k0_pay29 (k0_pay12 x0) s b) (Scalar.ofBits .f32 0x3F800000#32) = k0_pay13 x0 s b := rfl
theorem act_seventh (x0 : Vec F S512x1024 .f32) (s : Vec F S1024x256 .bf16) (b : Vec F S1x1x1x256 .f32) :
    k0_pay31 (k0_pay12 x0) s b = k0_pay13 x0 s b := rfl

/-- What the body stores, from what it loads. -/
theorem stored_eq (y0 : Vec F S512x1024 .f32) (s b0 b1 b2 b3 b4 b5 b6 b7 s1 z6 z1) (s0 s2 s3 s4 s5 s6 s7 : Vec F S1024x256 .bf16)
    (S0 : Vec F S1024x2048 .bf16) (S1 : Vec F S1024x1024 .bf16)
    (e0 : y0 = x0) (h0 : s0 = scratchCols S0 0) (h1 : s = scratchCols S0 1) (h2 : s2 = scratchCols S0 2) (h3 : s3 = scratchCols S0 3)
    (h4 : s4 = scratchCols S0 4) (h5 : s5 = scratchCols S0 5) (h6 : s6 = scratchCols S0 6) (h7 : s7 = scratchCols S0 7)
    (g0 : b0 = biasCols x4 0) (g1 : b1 = biasCols x4 1) (g2 : b2 = biasCols x4 2) (g3 : b3 = biasCols x4 3) (g4 : b4 = biasCols x4 4)
    (g5 : b5 = biasCols x4 5) (g6 : b6 = biasCols x4 6) (g7 : b7 = biasCols x4 7) (hs : s1 = S1) (hz6 : z6 = x6) (hz1 : z1 = x1) :
    k0_pay4 (k0_pay13 y0 s0 b0) (k0_pay17 (k0_pay14 y0 s b1) (k0_pay15 y0 s b1) k0_pay16)
      (k0_pay21 (k0_pay19 (k0_pay12 y0) s2 b2) (k0_pay20 (k0_pay12 y0) s2 b2) (Scalar.ofBits .f32 0x3F800000#32))
      (k0_pay22 (k0_pay12 y0) s3 b3) (k0_pay26 (k0_pay23 (k0_pay12 y0) s4 b4) (k0_pay24 (k0_pay12 y0) s4 b4) k0_pay25)
      (k0_pay30 (k0_pay28 (k0_pay12 y0) s5 b5) (k0_pay29 (k0_pay12 y0) s5 b5) (Scalar.ofBits .f32 0x3F800000#32))
      (k0_pay31 (k0_pay12 y0) s6 b6) (k0_pay32 (k0_pay12 y0) s7 b7) (k0_pay33 (k0_pay12 y0) s7 b7) k0_pay34 s1 z6 z1
      = expertOut x0 x1 x4 x6 S0 S1 := by
  subst e0 h0 h1 h2 h3 h4 h5 h6 h7 g0 g1 g2 g3 g4 g5 g6 g7 hs hz6 hz1
  rw [act_second, act_third, act_fourth, act_fifth, act_sixth, act_seventh]
  rfl
end

section
variable (c : Dev nD) (i : grid0.Coords) (arg3 : Memref sig .tc .vmem S512x1024 .f32) (harg3 : arg3.IsWhole) (arg4 : Memref sig .tc .vmem S512x1 .f32) (harg4 : arg4.IsWhole) (arg5 : Memref sig .tc .vmem S1x1x1024x2048 .f32) (harg5 : arg5.IsWhole) (arg6 : Memref sig .tc .vmem S256x256 .bf16) (harg6 : arg6.IsWhole) (arg7 : Memref sig .tc .vmem S1x1x1x2048 .f32) (harg7 : arg7.IsWhole) (arg8 : Memref sig .tc .vmem S1x1x1024x1024 .f32) (harg8 : arg8.IsWhole) (arg9 : Memref sig .tc .vmem S1x1x1x1024 .f32) (harg9 : arg9.IsWhole) (arg10 : Memref sig .tc .vmem S512x1024 .bf16) (harg10 : arg10.IsWhole)
  (x0 : Vec F S512x1024 .f32) (x1 : Vec F S512x1 .f32) (x2 : Vec F S1x1x1024x2048 .f32) (x3 : Vec F S256x256 .bf16) (x4 : Vec F S1x1x1x2048 .f32) (x5 : Vec F S1x1x1024x1024 .f32) (x6 : Vec F S1x1x1x1024 .f32)

/-- After a refill the block is computed from the refilled scratch. -/
theorem out_refill (f : arg10.view.ty.Contents (Elt F)) :
    arg10.view.read (Elt F) (arg10.view.writes (Elt F) f (runAC c i arg3 harg3 arg4 harg4 arg5 harg5 arg6 harg6 arg7 harg7 arg8 harg8 arg9 harg9 arg10 harg10 x0 x1 x2 x3 x4 x5 x6).1)
      = expertOut x0 x1 x4 x6 (firstWeights x2 x3) (k0_pay3 x5) := by
  refine (View.read_writes_full arg10.view f inb_S512x1024_S512x1024_0_0 _ []).trans ?_
  exact stored_eq x0 x1 x4 x6 _ _ _ _ _ _ _ _ _ _ _ _ _ _ _ _ _ _ _ _ (firstWeights x2 x3) (k0_pay3 x5) (View.readAt_rep_full arg3.view x0 _)
    (load_covered arg5 arg6 x2 x3 scW1.view 0 rfl inb_S1024x2048_S1024x256_0_0) (load_covered arg5 arg6 x2 x3 scW1.view 1 rfl inb_S1024x2048_S1024x256_0_256)
    (load_covered arg5 arg6 x2 x3 scW1.view 2 rfl inb_S1024x2048_S1024x256_0_512) (load_covered arg5 arg6 x2 x3 scW1.view 3 rfl inb_S1024x2048_S1024x256_0_768)
    (load_covered arg5 arg6 x2 x3 scW1.view 4 rfl inb_S1024x2048_S1024x256_0_1024) (load_covered arg5 arg6 x2 x3 scW1.view 5 rfl inb_S1024x2048_S1024x256_0_1280)
    (load_covered arg5 arg6 x2 x3 scW1.view 6 rfl inb_S1024x2048_S1024x256_0_1536) (load_covered arg5 arg6 x2 x3 scW1.view 7 rfl inb_S1024x2048_S1024x256_0_1792)
    (load_bias arg7 x4 0 rfl inb_S1x1x1x2048_S1x1x1x256_0_0_0_0) (load_bias arg7 x4 1 rfl inb_S1x1x1x2048_S1x1x1x256_0_0_0_256)
    (load_bias arg7 x4 2 rfl inb_S1x1x1x2048_S1x1x1x256_0_0_0_512) (load_bias arg7 x4 3 rfl inb_S1x1x1x2048_S1x1x1x256_0_0_0_768)
    (load_bias arg7 x4 4 rfl inb_S1x1x1x2048_S1x1x1x256_0_0_0_1024) (load_bias arg7 x4 5 rfl inb_S1x1x1x2048_S1x1x1x256_0_0_0_1280)
    (load_bias arg7 x4 6 rfl inb_S1x1x1x2048_S1x1x1x256_0_0_0_1536) (load_bias arg7 x4 7 rfl inb_S1x1x1x2048_S1x1x1x256_0_0_0_1792)
    (load_covered2 arg8 x5 scW2.view) (View.readAt_rep_full arg9.view x6 _) (View.readAt_rep_full arg4.view x1 _)

/-- Without one it is computed from what the scratch holds. -/
theorem out_keep (xa0 : Buf (Elt F) ((c : Thread nD τ).loc cc0_scratch0)) (xa1 : Buf (Elt F) ((c : Thread nD τ).loc cc0_scratch1)) (f : arg10.view.ty.Contents (Elt F)) :
    arg10.view.read (Elt F) (arg10.view.writes (Elt F) f (runBC c i arg3 harg3 arg4 harg4 arg5 harg5 arg6 harg6 arg7 harg7 arg8 harg8 arg9 harg9 arg10 harg10 x0 x1 x2 x3 x4 x5 x6 xa0 xa1).1)
      = expertOut x0 x1 x4 x6 xa0 xa1 := by
  refine (View.read_writes_full arg10.view f inb_S512x1024_S512x1024_0_0 _ []).trans ?_
  exact stored_eq x0 x1 x4 x6 _ _ _ _ _ _ _ _ _ _ _ _ _ _ _ _ _ _ _ _ xa0 xa1 (View.readAt_rep_full arg3.view x0 _)
    (load_scratch scW1.view xa0 xa0 rfl 0 rfl inb_S1024x2048_S1024x256_0_0) (load_scratch scW1.view xa0 xa0 rfl 1 rfl inb_S1024x2048_S1024x256_0_256)
    (load_scratch scW1.view xa0 xa0 rfl 2 rfl inb_S1024x2048_S1024x256_0_512) (load_scratch scW1.view xa0 xa0 rfl 3 rfl inb_S1024x2048_S1024x256_0_768)
    (load_scratch scW1.view xa0 xa0 rfl 4 rfl inb_S1024x2048_S1024x256_0_1024) (load_scratch scW1.view xa0 xa0 rfl 5 rfl inb_S1024x2048_S1024x256_0_1280)
    (load_scratch scW1.view xa0 xa0 rfl 6 rfl inb_S1024x2048_S1024x256_0_1536) (load_scratch scW1.view xa0 xa0 rfl 7 rfl inb_S1024x2048_S1024x256_0_1792)
    (load_bias arg7 x4 0 rfl inb_S1x1x1x2048_S1x1x1x256_0_0_0_0) (load_bias arg7 x4 1 rfl inb_S1x1x1x2048_S1x1x1x256_0_0_0_256)
    (load_bias arg7 x4 2 rfl inb_S1x1x1x2048_S1x1x1x256_0_0_0_512) (load_bias arg7 x4 3 rfl inb_S1x1x1x2048_S1x1x1x256_0_0_0_768)
    (load_bias arg7 x4 4 rfl inb_S1x1x1x2048_S1x1x1x256_0_0_0_1024) (load_bias arg7 x4 5 rfl inb_S1x1x1x2048_S1x1x1x256_0_0_0_1280)
    (load_bias arg7 x4 6 rfl inb_S1x1x1x2048_S1x1x1x256_0_0_0_1536) (load_bias arg7 x4 7 rfl inb_S1x1x1x2048_S1x1x1x256_0_0_0_1792)
    (View.readAt_full scW2.view _ _) (View.readAt_rep_full arg9.view x6 _) (View.readAt_rep_full arg4.view x1 _)

theorem zero_refill (f : arg10.view.ty.Contents (Elt F)) :
    arg10.view.read (Elt F) (arg10.view.writes (Elt F) f (runAZ c i arg3 harg3 arg4 harg4 arg5 harg5 arg6 harg6 arg7 harg7 arg8 harg8 arg9 harg9 arg10 harg10 x0 x1 x2 x3 x4 x5 x6).1) = k0_pay5 :=
  View.read_writes_full arg10.view f inb_S512x1024_S512x1024_0_0 _ []

theorem zero_keep (xa0 : Buf (Elt F) ((c : Thread nD τ).loc cc0_scratch0)) (xa1 : Buf (Elt F) ((c : Thread nD τ).loc cc0_scratch1)) (f : arg10.view.ty.Contents (Elt F)) :
    arg10.view.read (Elt F) (arg10.view.writes (Elt F) f (runBZ c i arg3 harg3 arg4 harg4 arg5 harg5 arg6 harg6 arg7 harg7 arg8 harg8 arg9 harg9 arg10 harg10 x0 x1 x2 x3 x4 x5 x6 xa0 xa1).1) = k0_pay5 :=
  View.read_writes_full arg10.view f inb_S512x1024_S512x1024_0_0 _ []

/-- The scratch after either refill. -/
theorem scratch_compute (xa0 : Buf (Elt F) ((c : Thread nD τ).loc cc0_scratch0)) :
    scW1.view.writes (Elt F) xa0 (runAC c i arg3 harg3 arg4 harg4 arg5 harg5 arg6 harg6 arg7 harg7 arg8 harg8 arg9 harg9 arg10 harg10 x0 x1 x2 x3 x4 x5 x6).2.1 = firstWeights x2 x3 := by
  refine (read_scratch c _).symm.trans ?_
  exact read_refill arg5 arg6 x2 x3 scW1.view xa0
theorem scratch2_compute (xa1 : Buf (Elt F) ((c : Thread nD τ).loc cc0_scratch1)) :
    scW2.view.writes (Elt F) xa1 (runAC c i arg3 harg3 arg4 harg4 arg5 harg5 arg6 harg6 arg7 harg7 arg8 harg8 arg9 harg9 arg10 harg10 x0 x1 x2 x3 x4 x5 x6).2.2.1 = k0_pay3 x5 := by
  refine (read_scratch2 c _).symm.trans ?_
  exact read_refill2 arg8 x5 scW2.view xa1
theorem scratch_zero (xa0 : Buf (Elt F) ((c : Thread nD τ).loc cc0_scratch0)) :
    scW1.view.writes (Elt F) xa0 (runAZ c i arg3 harg3 arg4 harg4 arg5 harg5 arg6 harg6 arg7 harg7 arg8 harg8 arg9 harg9 arg10 harg10 x0 x1 x2 x3 x4 x5 x6).2.1 = firstWeights x2 x3 := by
  refine (read_scratch c _).symm.trans ?_
  exact read_refill arg5 arg6 x2 x3 scW1.view xa0
theorem scratch2_zero (xa1 : Buf (Elt F) ((c : Thread nD τ).loc cc0_scratch1)) :
    scW2.view.writes (Elt F) xa1 (runAZ c i arg3 harg3 arg4 harg4 arg5 harg5 arg6 harg6 arg7 harg7 arg8 harg8 arg9 harg9 arg10 harg10 x0 x1 x2 x3 x4 x5 x6).2.2.1 = k0_pay3 x5 := by
  refine (read_scratch2 c _).symm.trans ?_
  exact read_refill2 arg8 x5 scW2.view xa1
end

end Cert.Kernel2Ideal.Experts
-- ==== Proof.ExpertsBody.lean ====
module

public import proofs.«01_k».proof.Proof.ExpertsBlock
public import Idealize.ShloMosaic.Lib.Claim
public import Idealize.ShloMosaic.Lib.Pipeline.TableIdle
public import Idealize.ShloMosaic.Adequacy
public import Idealize.ShloMosaic.Init

@[expose] public section

set_option maxRecDepth 16384

noncomputable section

/-! The run of the whole experts call: the scratch holds the regrouped weights of the last expert met, and each block of rows is computed from it or set to zero. -/

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore's buffers when the call begins. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The host code before the call. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The two tables as launched: each block's expert, and the number of blocks in use. -/
abbrev tabE : S162.Idx → Elt F .i32 := m (((0 : Dev nD) : Thread nD τ).loc main_arg0)
abbrev tabN : S1.Idx → Elt F .i32 := m (((0 : Dev nD) : Thread nD τ).loc main_arg1)

def tbl : pre0.Contents (Elt F) := fun | ⟨0, _⟩ => tabE m | ⟨1, _⟩ => tabN m | ⟨_ + 2, h⟩ => absurd h (by simp)

/-- The blocks the tables name lie inside the arrays. -/
abbrev Ok : Prop := ok0 (F := F) (tbl m)

variable (hO : Ok m)

def adm : (pcfg0 (F := F)).Adm := ⟨tbl m, hO⟩
abbrev cfgA : Pipeline.Cfg sig Λ₀ := cfg0 (F := F) (adm m hO)
abbrev pcs : Fin 1 → Pipeline.Cfg sig Λ₀ := Pipeline.pin (pcfgs (F := F)) fun _ => adm m hO

/-- Point `t`'s coordinates, and the staging memrefs there. -/
abbrev crd (t : Fin (cfgA m hO).N) : grid0.Coords := (cfgA m hO).grid.coords t

abbrev ms0_0 (t : Fin (cfgA m hO).N) : Memref sig .tc .vmem S512x1024 .f32 := spec0_0.stage ((cfgA m hO).slots t (0 : Fin 8))
abbrev hs0_0 (t : Fin (cfgA m hO).N) : (ms0_0 m hO t).IsWhole := hstage0_0 (((cfgA m hO).slots t (0 : Fin 8)).cast nbuf0_0)
abbrev ms0_1 (t : Fin (cfgA m hO).N) : Memref sig .tc .vmem S512x1 .f32 := spec0_1.stage ((cfgA m hO).slots t (1 : Fin 8))
abbrev hs0_1 (t : Fin (cfgA m hO).N) : (ms0_1 m hO t).IsWhole := hstage0_1 (((cfgA m hO).slots t (1 : Fin 8)).cast nbuf0_1)
abbrev ms0_2 (t : Fin (cfgA m hO).N) : Memref sig .tc .vmem S1x1x1024x2048 .f32 := spec0_2.stage ((cfgA m hO).slots t (2 : Fin 8))
abbrev hs0_2 (t : Fin (cfgA m hO).N) : (ms0_2 m hO t).IsWhole := hstage0_2 (((cfgA m hO).slots t (2 : Fin 8)).cast nbuf0_2)
abbrev ms0_3 (t : Fin (cfgA m hO).N) : Memref sig .tc .vmem S256x256 .bf16 := spec0_3.stage ((cfgA m hO).slots t (3 : Fin 8))
abbrev hs0_3 (t : Fin (cfgA m hO).N) : (ms0_3 m hO t).IsWhole := hstage0_3 (((cfgA m hO).slots t (3 : Fin 8)).cast nbuf0_3)
abbrev ms0_4 (t : Fin (cfgA m hO).N) : Memref sig .tc .vmem S1x1x1x2048 .f32 := spec0_4.stage ((cfgA m hO).slots t (4 : Fin 8))
abbrev hs0_4 (t : Fin (cfgA m hO).N) : (ms0_4 m hO t).IsWhole := hstage0_4 (((cfgA m hO).slots t (4 : Fin 8)).cast nbuf0_4)
abbrev ms0_5 (t : Fin (cfgA m hO).N) : Memref sig .tc .vmem S1x1x1024x1024 .f32 := spec0_5.stage ((cfgA m hO).slots t (5 : Fin 8))
abbrev hs0_5 (t : Fin (cfgA m hO).N) : (ms0_5 m hO t).IsWhole := hstage0_5 (((cfgA m hO).slots t (5 : Fin 8)).cast nbuf0_5)
abbrev ms0_6 (t : Fin (cfgA m hO).N) : Memref sig .tc .vmem S1x1x1x1024 .f32 := spec0_6.stage ((cfgA m hO).slots t (6 : Fin 8))
abbrev hs0_6 (t : Fin (cfgA m hO).N) : (ms0_6 m hO t).IsWhole := hstage0_6 (((cfgA m hO).slots t (6 : Fin 8)).cast nbuf0_6)
abbrev ms0_7 (t : Fin (cfgA m hO).N) : Memref sig .tc .vmem S512x1024 .bf16 := spec0_7.stage ((cfgA m hO).slots t (7 : Fin 8))
abbrev hs0_7 (t : Fin (cfgA m hO).N) : (ms0_7 m hO t).IsWhole := hstage0_7 (((cfgA m hO).slots t (7 : Fin 8)).cast nbuf0_7)

/-- Window `w`'s block at point `t`. -/
def iblk (c : Dev nD) (w : Fin (cfgA m hO).W) (t : Fin (cfgA m hO).N) : (((cfgA m hO).win w).xblock (crd m hO t)).Idx → Elt F ((cfgA m hO).win w).elt :=
  (((cfgA m hO).win w).blk t).view.read (Elt F) (V m c (Pipeline.arrRef spec0 w))

abbrev blk0 (c : Dev nD) (t : Fin (cfgA m hO).N) : Vec F S512x1024 .f32 := iblk m hO c 0 t
abbrev blk1 (c : Dev nD) (t : Fin (cfgA m hO).N) : Vec F S512x1 .f32 := iblk m hO c 1 t
abbrev blk2 (c : Dev nD) (t : Fin (cfgA m hO).N) : Vec F S1x1x1024x2048 .f32 := iblk m hO c 2 t
abbrev blk3 (c : Dev nD) (t : Fin (cfgA m hO).N) : Vec F S256x256 .bf16 := iblk m hO c 3 t
abbrev blk4 (c : Dev nD) (t : Fin (cfgA m hO).N) : Vec F S1x1x1x2048 .f32 := iblk m hO c 4 t
abbrev blk5 (c : Dev nD) (t : Fin (cfgA m hO).N) : Vec F S1x1x1024x1024 .f32 := iblk m hO c 5 t
abbrev blk6 (c : Dev nD) (t : Fin (cfgA m hO).N) : Vec F S1x1x1x1024 .f32 := iblk m hO c 6 t

/-- What the scratch holds after point `t`. -/
abbrev kept1 (c : Dev nD) (t : Fin (cfgA m hO).N) : Vec F S1024x2048 .bf16 := firstWeights (blk2 m hO c t) (blk3 m hO c t)
abbrev kept2 (c : Dev nD) (t : Fin (cfgA m hO).N) : Vec F S1024x1024 .bf16 := k0_pay3 (blk5 m hO c t)

/-- What the call leaves in the output's buffer at point `t`. -/
def blockOut (c : Dev nD) (t : Fin (cfgA m hO).N) : Vec F S512x1024 .bf16 :=
  if k0_cond2 (crd m hO t) (used (F := F) (tabN m)) = 1#1 then
    expertOut (blk0 m hO c t) (blk1 m hO c t) (blk4 m hO c t) (blk6 m hO c t) (kept1 m hO c t) (kept2 m hO c t)
  else k0_pay5

/-- Between points the scratch holds what the point before left. -/
def inv (c : Dev nD) (n : ℕ) : sProp 𝕄 :=
  iprop((∃ f0 : Vec F S1024x2048 .bf16, ∃ f1 : Vec F S1024x1024 .bf16,
      iprop(⌜∀ s : Fin (cfgA m hO).N, s.val + 1 = n → f0 = kept1 m hO c s ∧ f1 = kept2 m hO c s⌝
        ∗ (scW1.view.loc (c : Thread nD τ) ↦{fullShare} f0) ∗ (scW2.view.loc (c : Thread nD τ) ↦{fullShare} f1)))
    ∗ (∃ r, prngReg c r) ∗ (tbE.view.loc (c : Thread nD τ) ↦{fullShare.right} tabE m) ∗ (tbN.view.loc (c : Thread nD τ) ↦{fullShare.right} tabN m))

/-- The launch's proof data. -/
def dats (_ : Fin 1) (c : Dev nD) : Dat τ (Elt F) Unit ℕ (UR sig nD τ) ℕ (cfgA m hO) c where
  A w := V m c (Pipeline.arrRef spec0 w)
  after w t := match w with

    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => blockOut m hO c t
    | ⟨_ + 8, h⟩ => absurd h (Nat.not_lt.2 (Nat.le_add_left _ _))
  Φ t := inv m hO c t.val
  q _ := fullShare
  owed _ := 0

theorem A_eq (c : Dev nD) (w : Fin (cfgA m hO).W) : (dats m hO 0 c).A w = V m c (Pipeline.arrRef spec0 w) := by
  dsimp only [dats]

theorem after0_0 (c : Dev nD) (t : Fin (cfgA m hO).N) : (dats m hO 0 c).after (0 : Fin 8) t = iblk m hO c 0 t := by dsimp only [dats]
theorem after0_1 (c : Dev nD) (t : Fin (cfgA m hO).N) : (dats m hO 0 c).after (1 : Fin 8) t = iblk m hO c 1 t := by dsimp only [dats]
theorem after0_2 (c : Dev nD) (t : Fin (cfgA m hO).N) : (dats m hO 0 c).after (2 : Fin 8) t = iblk m hO c 2 t := by dsimp only [dats]
theorem after0_3 (c : Dev nD) (t : Fin (cfgA m hO).N) : (dats m hO 0 c).after (3 : Fin 8) t = iblk m hO c 3 t := by dsimp only [dats]
theorem after0_4 (c : Dev nD) (t : Fin (cfgA m hO).N) : (dats m hO 0 c).after (4 : Fin 8) t = iblk m hO c 4 t := by dsimp only [dats]
theorem after0_5 (c : Dev nD) (t : Fin (cfgA m hO).N) : (dats m hO 0 c).after (5 : Fin 8) t = iblk m hO c 5 t := by dsimp only [dats]
theorem after0_6 (c : Dev nD) (t : Fin (cfgA m hO).N) : (dats m hO 0 c).after (6 : Fin 8) t = iblk m hO c 6 t := by dsimp only [dats]
theorem after0_7 (c : Dev nD) (t : Fin (cfgA m hO).N) : (dats m hO 0 c).after (7 : Fin 8) t = blockOut m hO c t := by dsimp only [dats]

theorem fetched0_0 (c : Dev nD) (t : Fin (cfgA m hO).N) (d) : (dats m hO 0 c).fetched (0 : Fin 8) t d = iblk m hO c 0 t := by
  unfold Dat.fetched Dat.blockOf iblk; rw [A_eq]; try rfl
theorem before0_0 (c : Dev nD) (t : Fin (cfgA m hO).N) (d) : (dats m hO 0 c).before (0 : Fin 8) t d = iblk m hO c 0 t :=
  ((dats m hO 0 c).before_in_eq_fetched (0 : Fin 8) rfl (fun _ => rfl) (fun _ _ _ => rfl) (fun t => by rw [after0_0]; unfold Dat.blockOf iblk; rw [A_eq]; try rfl) t d).trans
    (fetched0_0 m hO c t d)
theorem fetched0_1 (c : Dev nD) (t : Fin (cfgA m hO).N) (d) : (dats m hO 0 c).fetched (1 : Fin 8) t d = iblk m hO c 1 t := by
  unfold Dat.fetched Dat.blockOf iblk; rw [A_eq]; try rfl
theorem before0_1 (c : Dev nD) (t : Fin (cfgA m hO).N) (d) : (dats m hO 0 c).before (1 : Fin 8) t d = iblk m hO c 1 t :=
  ((dats m hO 0 c).before_in_eq_fetched (1 : Fin 8) rfl (fun _ => rfl) (fun _ _ _ => rfl) (fun t => by rw [after0_1]; unfold Dat.blockOf iblk; rw [A_eq]; try rfl) t d).trans
    (fetched0_1 m hO c t d)
theorem fetched0_2 (c : Dev nD) (t : Fin (cfgA m hO).N) (d) : (dats m hO 0 c).fetched (2 : Fin 8) t d = iblk m hO c 2 t := by
  unfold Dat.fetched Dat.blockOf iblk; rw [A_eq]; try rfl
theorem before0_2 (c : Dev nD) (t : Fin (cfgA m hO).N) (d) : (dats m hO 0 c).before (2 : Fin 8) t d = iblk m hO c 2 t :=
  ((dats m hO 0 c).before_in_eq_fetched (2 : Fin 8) rfl (fun _ => rfl) (fun _ _ _ => rfl) (fun t => by rw [after0_2]; unfold Dat.blockOf iblk; rw [A_eq]; try rfl) t d).trans
    (fetched0_2 m hO c t d)
theorem fetched0_3 (c : Dev nD) (t : Fin (cfgA m hO).N) (d) : (dats m hO 0 c).fetched (3 : Fin 8) t d = iblk m hO c 3 t := by
  unfold Dat.fetched Dat.blockOf iblk; rw [A_eq]; try rfl
theorem before0_3 (c : Dev nD) (t : Fin (cfgA m hO).N) (d) : (dats m hO 0 c).before (3 : Fin 8) t d = iblk m hO c 3 t :=
  ((dats m hO 0 c).before_in_eq_fetched (3 : Fin 8) rfl (fun _ => rfl) (fun _ _ _ => rfl) (fun t => by rw [after0_3]; unfold Dat.blockOf iblk; rw [A_eq]; try rfl) t d).trans
    (fetched0_3 m hO c t d)
theorem fetched0_4 (c : Dev nD) (t : Fin (cfgA m hO).N) (d) : (dats m hO 0 c).fetched (4 : Fin 8) t d = iblk m hO c 4 t := by
  unfold Dat.fetched Dat.blockOf iblk; rw [A_eq]; try rfl
theorem before0_4 (c : Dev nD) (t : Fin (cfgA m hO).N) (d) : (dats m hO 0 c).before (4 : Fin 8) t d = iblk m hO c 4 t :=
  ((dats m hO 0 c).before_in_eq_fetched (4 : Fin 8) rfl (fun _ => rfl) (fun _ _ _ => rfl) (fun t => by rw [after0_4]; unfold Dat.blockOf iblk; rw [A_eq]; try rfl) t d).trans
    (fetched0_4 m hO c t d)
theorem fetched0_5 (c : Dev nD) (t : Fin (cfgA m hO).N) (d) : (dats m hO 0 c).fetched (5 : Fin 8) t d = iblk m hO c 5 t := by
  unfold Dat.fetched Dat.blockOf iblk; rw [A_eq]; try rfl
theorem before0_5 (c : Dev nD) (t : Fin (cfgA m hO).N) (d) : (dats m hO 0 c).before (5 : Fin 8) t d = iblk m hO c 5 t :=
  ((dats m hO 0 c).before_in_eq_fetched (5 : Fin 8) rfl (fun _ => rfl) (fun _ _ _ => rfl) (fun t => by rw [after0_5]; unfold Dat.blockOf iblk; rw [A_eq]; try rfl) t d).trans
    (fetched0_5 m hO c t d)
theorem fetched0_6 (c : Dev nD) (t : Fin (cfgA m hO).N) (d) : (dats m hO 0 c).fetched (6 : Fin 8) t d = iblk m hO c 6 t := by
  unfold Dat.fetched Dat.blockOf iblk; rw [A_eq]; try rfl
theorem before0_6 (c : Dev nD) (t : Fin (cfgA m hO).N) (d) : (dats m hO 0 c).before (6 : Fin 8) t d = iblk m hO c 6 t :=
  ((dats m hO 0 c).before_in_eq_fetched (6 : Fin 8) rfl (fun _ => rfl) (fun _ _ _ => rfl) (fun t => by rw [after0_6]; unfold Dat.blockOf iblk; rw [A_eq]; try rfl) t d).trans
    (fetched0_6 m hO c t d)

/-! ## The conditions at a point -/

theorem widen (b : Bool) : IntOp.cmpi .ne (BitVec.setWidth 32 (BitVec.ofBool b)) 0#32 = BitVec.ofBool b := by cases b <;> rfl

theorem cond2_eq (i : grid0.Coords) (v : BitVec 32) : k0_cond2 i v = BitVec.ofBool ((BitVec.ofNat 32 (i 0).val).slt v) := widen _

theorem cond3_eq (i : grid0.Coords) (v : BitVec 32) : k0_cond3 i v = BitVec.ofBool (!(BitVec.ofNat 32 (i 0).val).slt v) := by
  refine (widen (v.sle (BitVec.ofNat 32 (i 0).val))).trans ?_
  rw [BitVec.sle_eq_decide, BitVec.slt_eq_decide]
  congr 1
  by_cases h : v.toInt ≤ (BitVec.ofNat 32 (i 0).val).toInt
  · simp [h, Int.not_lt.mpr h]
  · simp [h, Int.not_le.mp h]

theorem cond3_of_not (i : grid0.Coords) (v : BitVec 32) (h2 : ¬ k0_cond2 i v = 1#1) : k0_cond3 i v = 1#1 := by
  rw [cond2_eq] at h2; rw [cond3_eq]
  cases h : (BitVec.ofNat 32 (i 0).val).slt v
  · rfl
  · rw [h] at h2; exact absurd rfl h2

theorem not_cond3 (i : grid0.Coords) (v : BitVec 32) (h2 : k0_cond2 i v = 1#1) : ¬ k0_cond3 i v = 1#1 := by
  rw [cond2_eq] at h2; rw [cond3_eq]
  cases h : (BitVec.ofNat 32 (i 0).val).slt v
  · rw [h] at h2; exact absurd h2 (by decide)
  · decide

theorem not_both (a b : BitVec 1) (h : ¬ a = 1#1 → b = 1#1) : (!(a == 1#1) && !(b == 1#1)) = false := by
  by_cases e : a = 1#1
  · subst e; rfl
  · rw [h e]; simp

theorem idle_false (t : Fin (cfgA m hO).N) : (cfgA m hO).idle (7 : Fin 8) ((cfgA m hO).grid.coords t) = false :=
  not_both _ _ (cond3_of_not _ _)

theorem crd_val : ∀ t : Fin grid0.N, (grid0.coords t 0).val = t.val := by decide +kernel

theorem off_before : ∀ t : Fin grid0.N, ∀ h : 0 < t.val, k0_off2 (grid0.coords t) = k0_off1 (grid0.coords ⟨t.val - 1, lt_of_le_of_lt (Nat.sub_le _ _) t.isLt⟩) := by decide +kernel

theorem bits_or : ∀ a b : BitVec 1, ¬ Scalar.cmpi .ne (BitVec.setWidth 32 (Scalar.ori a b)) 0#32 = 1#1 → ¬ a = 1#1 ∧ ¬ b = 1#1 := by decide

/-- Where the body does not refill, this is not the first point and the expert is the one of the point before. -/
theorem not_refills (i : grid0.Coords) (T0 : S162.Idx → Elt F .i32) (h : ¬ Refills (F := F) i T0) :
    BitVec.ofNat 32 (i 0).val ≠ 0#32 ∧ expertAt (F := F) i T0 = expertBefore (F := F) i T0 := by
  obtain ⟨h1, h2⟩ := bits_or (Scalar.cmpi .eq (BitVec.ofNat 32 (i 0).val) 0#32) (Scalar.cmpi .ne (expertAt (F := F) i T0) (expertBefore (F := F) i T0)) h
  constructor
  · intro e
    exact h1 (by rw [e]; rfl)
  · by_contra e
    exact h2 (congrArg BitVec.ofBool (bne_iff_ne.mpr e))

/-- The point before. -/
abbrev prev (t : Fin (cfgA m hO).N) : Fin (cfgA m hO).N := ⟨t.val - 1, lt_of_le_of_lt (Nat.sub_le _ _) t.isLt⟩

/-- There the expert is what this point calls the one before. -/
theorem expertBefore_eq (t : Fin (cfgA m hO).N) (h : 0 < t.val) (T0 : S162.Idx → Elt F .i32) :
    expertBefore (F := F) (crd m hO t) T0 = expertAt (F := F) (crd m hO (prev m hO t)) T0 := by
  have e : k0_off2 (crd m hO t) = k0_off1 (crd m hO (prev m hO t)) := off_before t h
  unfold expertBefore expertAt
  congr 2
  simp only [e]

theorem weights_index (t s : Fin (cfgA m hO).N) (h : expertAt (F := F) (crd m hO t) (tabE m) = expertAt (F := F) (crd m hO s) (tabE m)) :
    ((cfgA m hO).win (2 : Fin 8)).index t = ((cfgA m hO).win (2 : Fin 8)).index s ∧ ((cfgA m hO).win (5 : Fin 8)).index t = ((cfgA m hO).win (5 : Fin 8)).index s :=
  ⟨congrArg (fun e : BitVec 32 => (![0, e.toNat, 0, 0] : Fin 4 → ℕ)) h, congrArg (fun e : BitVec 32 => (![0, e.toNat, 0, 0] : Fin 4 → ℕ)) h⟩

/-- Where the body does not refill, the scratch already holds this point's weights. -/
theorem kept_of_not_refills (c : Dev nD) (t : Fin (cfgA m hO).N) (h : ¬ Refills (F := F) (crd m hO t) (tabE m)) :
    0 < t.val ∧ kept1 m hO c t = kept1 m hO c (prev m hO t) ∧ kept2 m hO c t = kept2 m hO c (prev m hO t) := by
  obtain ⟨h1, h2⟩ := not_refills _ _ h
  have hv : (crd m hO t 0).val = t.val := crd_val t
  have h0 : 0 < t.val := by
    rcases Nat.eq_zero_or_pos t.val with e | e
    · exact absurd (by rw [hv, e]) h1
    · exact e
  rw [expertBefore_eq m hO t h0] at h2
  obtain ⟨i2, i5⟩ := weights_index m hO t _ h2
  have e2 : blk2 m hO c t = blk2 m hO c (prev m hO t) :=
    ((fetched0_2 m hO c t (blk2 m hO c t)).symm.trans ((dats m hO 0 c).fetched_congr (2 : Fin 8) i2 rfl _)).trans (fetched0_2 m hO c _ _)
  have e3 : blk3 m hO c t = blk3 m hO c (prev m hO t) :=
    ((fetched0_3 m hO c t (blk3 m hO c t)).symm.trans ((dats m hO 0 c).fetched_congr (3 : Fin 8) rfl rfl _)).trans (fetched0_3 m hO c _ _)
  have e5 : blk5 m hO c t = blk5 m hO c (prev m hO t) :=
    ((fetched0_5 m hO c t (blk5 m hO c t)).symm.trans ((dats m hO 0 c).fetched_congr (5 : Fin 8) i5 rfl _)).trans (fetched0_5 m hO c _ _)
  refine ⟨h0, ?_, ?_⟩
  · show firstWeights (blk2 m hO c t) (blk3 m hO c t) = _
    rw [e2, e3]
  · show k0_pay3 (blk5 m hO c t) = _
    rw [e5]

/-! ## The body at a point -/

abbrev bodyAt (t : Fin (cfgA m hO).N) : Prog (TpuEff nD τ sig (Elt F) Λ₀ .tc) PUnit :=
  cc0_moe_experts (crd m hO t) tbE (Memref.isWhole_whole _) tbN (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scW1 (Memref.isWhole_whole _) scW2 (Memref.isWhole_whole _)

/-- What the body is called with at point `t`, -/
def bodyPre (c : Dev nD) (t : Fin (cfgA m hO).N) : sProp 𝕄 :=
  iprop((dats m hO 0 c).Φ t.castSucc ∗ (dats m hO 0 c).owesAt () t.castSucc
    ∗ (∃ d, owns (c : Thread nD τ) (ms0_0 m hO t) fullShare ((dats m hO 0 c).before (0 : Fin 8) t d))
    ∗ (∃ d, owns (c : Thread nD τ) (ms0_1 m hO t) fullShare ((dats m hO 0 c).before (1 : Fin 8) t d))
    ∗ (∃ d, owns (c : Thread nD τ) (ms0_2 m hO t) fullShare ((dats m hO 0 c).before (2 : Fin 8) t d))
    ∗ (∃ d, owns (c : Thread nD τ) (ms0_3 m hO t) fullShare ((dats m hO 0 c).before (3 : Fin 8) t d))
    ∗ (∃ d, owns (c : Thread nD τ) (ms0_4 m hO t) fullShare ((dats m hO 0 c).before (4 : Fin 8) t d))
    ∗ (∃ d, owns (c : Thread nD τ) (ms0_5 m hO t) fullShare ((dats m hO 0 c).before (5 : Fin 8) t d))
    ∗ (∃ d, owns (c : Thread nD τ) (ms0_6 m hO t) fullShare ((dats m hO 0 c).before (6 : Fin 8) t d))
    ∗ (∃ d, owns (c : Thread nD τ) (ms0_7 m hO t) fullShare ((dats m hO 0 c).before (7 : Fin 8) t d)))

/-- and what it returns. -/
def bodyPost (c : Dev nD) (t : Fin (cfgA m hO).N) : sProp 𝕄 :=
  iprop((dats m hO 0 c).Φ t.succ ∗ (dats m hO 0 c).owesAt () t.succ
    ∗ owns (c : Thread nD τ) (ms0_0 m hO t) fullShare ((dats m hO 0 c).after (0 : Fin 8) t)
    ∗ owns (c : Thread nD τ) (ms0_1 m hO t) fullShare ((dats m hO 0 c).after (1 : Fin 8) t)
    ∗ owns (c : Thread nD τ) (ms0_2 m hO t) fullShare ((dats m hO 0 c).after (2 : Fin 8) t)
    ∗ owns (c : Thread nD τ) (ms0_3 m hO t) fullShare ((dats m hO 0 c).after (3 : Fin 8) t)
    ∗ owns (c : Thread nD τ) (ms0_4 m hO t) fullShare ((dats m hO 0 c).after (4 : Fin 8) t)
    ∗ owns (c : Thread nD τ) (ms0_5 m hO t) fullShare ((dats m hO 0 c).after (5 : Fin 8) t)
    ∗ owns (c : Thread nD τ) (ms0_6 m hO t) fullShare ((dats m hO 0 c).after (6 : Fin 8) t)
    ∗ owns (c : Thread nD τ) (ms0_7 m hO t) fullShare ((dats m hO 0 c).after (7 : Fin 8) t))

theorem blockOut_some (c : Dev nD) (t : Fin (cfgA m hO).N) (h : k0_cond2 (crd m hO t) (used (F := F) (tabN m)) = 1#1) :
    blockOut m hO c t = expertOut (blk0 m hO c t) (blk1 m hO c t) (blk4 m hO c t) (blk6 m hO c t) (kept1 m hO c t) (kept2 m hO c t) := if_pos h
theorem blockOut_none (c : Dev nD) (t : Fin (cfgA m hO).N) (h : ¬ k0_cond2 (crd m hO t) (used (F := F) (tabN m)) = 1#1) :
    blockOut m hO c t = k0_pay5 := if_neg h

theorem step_refill (c : Dev nD) (t : Fin (cfgA m hO).N) (g0 : Vec F S1024x2048 .bf16) (g1 : Vec F S1024x1024 .bf16)
    (h0 : g0 = kept1 m hO c t) (h1 : g1 = kept2 m hO c t) (s : Fin (cfgA m hO).N) (hs : s.val + 1 = t.val + 1) :
    g0 = kept1 m hO c s ∧ g1 = kept2 m hO c s := by
  have e : s = t := Fin.ext (Nat.succ.inj hs)
  subst e
  exact ⟨h0, h1⟩

theorem keep_eq (c : Dev nD) (t : Fin (cfgA m hO).N) (f0 : Vec F S1024x2048 .bf16) (f1 : Vec F S1024x1024 .bf16)
    (hf : ∀ s : Fin (cfgA m hO).N, s.val + 1 = t.val → f0 = kept1 m hO c s ∧ f1 = kept2 m hO c s)
    (hr : ¬ Refills (F := F) (crd m hO t) (tabE m)) : kept1 m hO c t = f0 ∧ kept2 m hO c t = f1 := by
  obtain ⟨h0, h1, h2⟩ := kept_of_not_refills m hO c t hr
  obtain ⟨e0, e1⟩ := hf (prev m hO t) (Nat.sub_add_cancel h0)
  exact ⟨h1.trans e0.symm, h2.trans e1.symm⟩

theorem step_keep (c : Dev nD) (t : Fin (cfgA m hO).N) (f0 : Vec F S1024x2048 .bf16) (f1 : Vec F S1024x1024 .bf16)
    (hf : ∀ s : Fin (cfgA m hO).N, s.val + 1 = t.val → f0 = kept1 m hO c s ∧ f1 = kept2 m hO c s)
    (hr : ¬ Refills (F := F) (crd m hO t) (tabE m)) (s : Fin (cfgA m hO).N) (hs : s.val + 1 = t.val + 1) :
    f0 = kept1 m hO c s ∧ f1 = kept2 m hO c s :=
  step_refill m hO c t f0 f1 (keep_eq m hO c t f0 f1 hf hr).1.symm (keep_eq m hO c t f0 f1 hf hr).2.symm s hs

set_option maxHeartbeats 4000000 in
/-- The body at any point. -/
theorem sound_body (c : Dev nD) (t : Fin (cfgA m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3, before0_4, before0_5, before0_6]
  rw [show (dats m hO 0 c).Φ t.succ = inv m hO c (t.val + 1) from rfl, show (dats m hO 0 c).Φ t.castSucc = inv m hO c t.val from rfl,
    show (dats m hO 0 c).owesAt () t.succ = (dats m hO 0 c).owesAt () t.castSucc from rfl,
    after0_0, after0_1, after0_2, after0_3, after0_4, after0_5, after0_6, after0_7]
  rw [owns_eq_rep (c : Thread nD τ) (ms0_0 m hO t) fullShare (iblk m hO c 0 t), owns_eq_rep (c : Thread nD τ) (ms0_1 m hO t) fullShare (iblk m hO c 1 t), owns_eq_rep (c : Thread nD τ) (ms0_2 m hO t) fullShare (iblk m hO c 2 t), owns_eq_rep (c : Thread nD τ) (ms0_3 m hO t) fullShare (iblk m hO c 3 t), owns_eq_rep (c : Thread nD τ) (ms0_4 m hO t) fullShare (iblk m hO c 4 t), owns_eq_rep (c : Thread nD τ) (ms0_5 m hO t) fullShare (iblk m hO c 5 t), owns_eq_rep (c : Thread nD τ) (ms0_6 m hO t) fullShare (iblk m hO c 6 t)]
  unfold inv owns
  iintro ⟨⟨⟨%f0, %f1, %hf, HS0, HS1⟩, Hg, HT0, HT1⟩, Ho, ⟨%d3, H3⟩, ⟨%d4, H4⟩, ⟨%d5, H5⟩, ⟨%d6, H6⟩, ⟨%d7, H7⟩, ⟨%d8, H8⟩, ⟨%d9, H9⟩, ⟨%d10, %f10, %_, HO⟩⟩
  by_cases hr : Refills (F := F) (crd m hO t) (tabE m)
  · by_cases h2 : k0_cond2 (crd m hO t) (used (F := F) (tabN m)) = 1#1
    · have h3 := not_cond3 _ _ h2
      iapply ((runAC c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t)).2.2.2 (tabE m) (tabN m) hr h2 h3 f0 f1 f10 Set.univ _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HT0]; · iexact HT0
      isplitl [HT1]; · iexact HT1
      isplitl [HO]; · iexact HO
      isplitl [HS0]; · iexact HS0
      isplitl [HS1]; · iexact HS1
      iintro ⟨H3, H4, H5, H6, H7, H8, H9, HT0, HT1, HO, HS0, HS1⟩
      isplitl [HS0 HS1 Hg HT0 HT1]
      · isplitl [HS0 HS1]
        · iexists _, _
          isplitr; swap
          · isplitl [HS0]; · iexact HS0
            iexact HS1
          ipureintro
          exact step_refill m hO c t _ _ (scratch_compute c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f0) (scratch2_compute c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f1)
        isplitl [Hg]; · iexact Hg
        isplitl [HT0]; · iexact HT0
        iexact HT1
      isplitl [Ho]; · iexact Ho
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; isplitr; swap; · iexact HO
      ipureintro
      rw [blockOut_some m hO c t h2]
      exact out_refill c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f10
    · have h3 := cond3_of_not _ _ h2
      iapply ((runAZ c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t)).2.2.2 (tabE m) (tabN m) hr h2 h3 f0 f1 f10 Set.univ _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HT0]; · iexact HT0
      isplitl [HT1]; · iexact HT1
      isplitl [HO]; · iexact HO
      isplitl [HS0]; · iexact HS0
      isplitl [HS1]; · iexact HS1
      iintro ⟨H3, H4, H5, H6, H7, H8, H9, HT0, HT1, HO, HS0, HS1⟩
      isplitl [HS0 HS1 Hg HT0 HT1]
      · isplitl [HS0 HS1]
        · iexists _, _
          isplitr; swap
          · isplitl [HS0]; · iexact HS0
            iexact HS1
          ipureintro
          exact step_refill m hO c t _ _ (scratch_zero c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f0) (scratch2_zero c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f1)
        isplitl [Hg]; · iexact Hg
        isplitl [HT0]; · iexact HT0
        iexact HT1
      isplitl [Ho]; · iexact Ho
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; isplitr; swap; · iexact HO
      ipureintro
      rw [blockOut_none m hO c t h2]
      exact zero_refill c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f10
  · by_cases h2 : k0_cond2 (crd m hO t) (used (F := F) (tabN m)) = 1#1
    · have h3 := not_cond3 _ _ h2
      iapply ((runBC c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f0 f1).2 (tabE m) (tabN m) hr h2 h3 f10 Set.univ _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HT0]; · iexact HT0
      isplitl [HT1]; · iexact HT1
      isplitl [HO]; · iexact HO
      isplitl [HS0]; · iexact HS0
      isplitl [HS1]; · iexact HS1
      iintro ⟨H3, H4, H5, H6, H7, H8, H9, HT0, HT1, HO, HS0, HS1⟩
      isplitl [HS0 HS1 Hg HT0 HT1]
      · isplitl [HS0 HS1]
        · iexists _, _
          isplitr; swap
          · isplitl [HS0]; · iexact HS0
            iexact HS1
          ipureintro
          exact step_keep m hO c t f0 f1 hf hr
        isplitl [Hg]; · iexact Hg
        isplitl [HT0]; · iexact HT0
        iexact HT1
      isplitl [Ho]; · iexact Ho
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; isplitr; swap; · iexact HO
      ipureintro
      rw [blockOut_some m hO c t h2]
      rw [(keep_eq m hO c t f0 f1 hf hr).1, (keep_eq m hO c t f0 f1 hf hr).2]
      exact out_keep c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f0 f1 f10
    · have h3 := cond3_of_not _ _ h2
      iapply ((runBZ c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f0 f1).2 (tabE m) (tabN m) hr h2 h3 f10 Set.univ _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HT0]; · iexact HT0
      isplitl [HT1]; · iexact HT1
      isplitl [HO]; · iexact HO
      isplitl [HS0]; · iexact HS0
      isplitl [HS1]; · iexact HS1
      iintro ⟨H3, H4, H5, H6, H7, H8, H9, HT0, HT1, HO, HS0, HS1⟩
      isplitl [HS0 HS1 Hg HT0 HT1]
      · isplitl [HS0 HS1]
        · iexists _, _
          isplitr; swap
          · isplitl [HS0]; · iexact HS0
            iexact HS1
          ipureintro
          exact step_keep m hO c t f0 f1 hf hr
        isplitl [Hg]; · iexact Hg
        isplitl [HT0]; · iexact HT0
        iexact HT1
      isplitl [Ho]; · iexact Ho
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; isplitr; swap; · iexact HO
      ipureintro
      rw [blockOut_none m hO c t h2]
      exact zero_keep c (crd m hO t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (blk0 m hO c t) (blk1 m hO c t) (blk2 m hO c t) (blk3 m hO c t) (blk4 m hO c t) (blk5 m hO c t) (blk6 m hO c t) f0 f1 f10

theorem defs₀_row (t : Fin (cfgA m hO).N) :
    defs₀ (F := F) .tc (cfgA m hO).body ((cfgA m hO).bodyArgs t ((cfgA m hO).slots t)) = bodyAt m hO t := by
  unfold defs₀; rw [Defs.onTc_tc]

theorem body_obligation (c : Dev nD) : BodyObligation (dats (F := F) m hO 0 c) (defs₀ (F := F)) Variants.none () Set.univ := fun t => by
  rw [bigSep_W0, bigSep_W0, defs₀_row]
  refine triple_restated (sound_body m hO c t) rfl .rfl fun _ => ?_
  rw [idle_false m hO t]
  exact .rfl

/-! ## The launch -/

/-- The tables the call hands its body. -/
theorem tables_eq (c : Dev nD) : (Pipeline.ΦT pre0 (tbl m) c : sProp 𝕄)
    = iprop((tbE.view.loc (c : Thread nD τ) ↦{fullShare.right} tabE m) ∗ (tbN.view.loc (c : Thread nD τ) ↦{fullShare.right} tabN m)) :=
  bigSep_univ_eq_bigSepL [(0 : Fin 2), (1 : Fin 2)] (by decide) (by decide) _

theorem enter (c : Dev nD) : iprop(Pipeline.ΦA spec0 c ∗ Pipeline.ΦT pre0 (tbl m) c) ⊢ (dats m hO 0 c).Φ 0 := by
  rw [tables_eq]
  show iprop(Pipeline.ΦA spec0 c ∗ _) ⊢ inv m hO c 0
  unfold Pipeline.ΦA inv
  rw [scopedRest0_eq]
  iintro ⟨⟨⟨⟨%f0, HS0⟩, ⟨%f1, HS1⟩⟩, Hg⟩, HT0, HT1⟩
  isplitl [HS0 HS1]
  · iexists f0, f1
    isplitr; swap
    · isplitl [HS0]; · iexact HS0
      iexact HS1
    ipureintro
    exact fun s hs => absurd hs (Nat.succ_ne_zero _)
  isplitl [Hg]; · iexact Hg
  isplitl [HT0]; · iexact HT0
  iexact HT1

theorem leave (c : Dev nD) : (dats m hO 0 c).Φ (Fin.last (cfgA m hO).N) ⊢ (Pipeline.ΦA spec0 c : sProp 𝕄) := by
  show inv m hO c _ ⊢ _
  unfold Pipeline.ΦA inv
  rw [scopedRest0_eq]
  iintro ⟨⟨%f0, %f1, %_, HS0, HS1⟩, Hg, HT0, HT1⟩
  isplitl [HS0 HS1]
  · isplitl [HS0]
    · iexists f0; iexact HS0
    iexists f1; iexact HS1
  iexact Hg

set_option backward.isDefEq.respectTransparency.types false in
/-- From any memory with zero counters whose tables name blocks of the arrays every execution ends, with the arrays as the proof data says and every counter at zero. -/
theorem run_main_quiescent : θ_run defs (onTc (τ := τ) (main (F := F))) (s₀ m ρ) (fun r => (Pipeline.FramePost (pcs m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m) (hA := A_eq m hO)
    (hpf := fun c k => by
      have hc : c = 0 := Subsingleton.elim _ _
      subst hc
      match k with
      | ⟨0, _⟩ => exact V_main_arg0 m 0
      | ⟨1, _⟩ => exact V_main_arg1 m 0)
    (hin := enter m hO) (hout := leave m hO)

/-- A buffer that is none of the windows' arrays is none of the launch's. -/
theorem not_window (r : Ref sig .tc) (h : ∀ w : Fin 8, (![main_arg2, main_arg3, main_arg4, main_v20, main_v2, main_arg6, main_v3, main_v21] : Fin 8 → Ref sig .tc) w ≠ r) :
    ∀ w : Fin (pcs m hO 0).W, ((pcs m hO 0).spec w).arr.view.ref ≠ r := fun w => by
  match w with
  | ⟨0, _⟩ => exact h 0
  | ⟨1, _⟩ => exact h 1
  | ⟨2, _⟩ => exact h 2
  | ⟨3, _⟩ => exact h 3
  | ⟨4, _⟩ => exact h 4
  | ⟨5, _⟩ => exact h 5
  | ⟨6, _⟩ => exact h 6
  | ⟨7, _⟩ => exact h 7

include hO in
/-- The frame: the argument arrays end unchanged and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (not_window m hO _ (by decide)))).trans (V_main_arg0 m c),
      ((h.1 c).2 main_arg1 (Pipeline.mem_restRefs_of main_arg1 (by decide) (not_window m hO _ (by decide)))).trans (V_main_arg1 m c),
      ((h.1 c).1 (0 : Fin 8)).trans (((dats m hO 0 c).arrAt_in (0 : Fin 8) rfl _).trans ((A_eq m hO c 0).trans (V_main_arg2 m c))),
      ((h.1 c).1 (1 : Fin 8)).trans (((dats m hO 0 c).arrAt_in (1 : Fin 8) rfl _).trans ((A_eq m hO c 1).trans (V_main_arg3 m c))),
      ((h.1 c).1 (2 : Fin 8)).trans (((dats m hO 0 c).arrAt_in (2 : Fin 8) rfl _).trans ((A_eq m hO c 2).trans (V_main_arg4 m c))),
      ((h.1 c).2 main_arg5 (Pipeline.mem_restRefs_of main_arg5 (by decide) (not_window m hO _ (by decide)))).trans (V_main_arg5 m c),
      ((h.1 c).1 (5 : Fin 8)).trans (((dats m hO 0 c).arrAt_in (5 : Fin 8) rfl _).trans ((A_eq m hO c 5).trans (V_main_arg6 m c))),
      ((h.1 c).2 main_arg7 (Pipeline.mem_restRefs_of main_arg7 (by decide) (not_window m hO _ (by decide)))).trans (V_main_arg7 m c)⟩, h.2⟩) (run_main_quiescent m ρ hO)

end Cert.Kernel2Ideal.Experts

end
-- ==== Proof.ExpertsIdeal.lean ====
module

public import proofs.«01_k».proof.Proof.ExpertsBlock
public import proofs.«01_k».proof.Proof.ExpertsSpec
public import Idealize.ShloMosaic.Lib.Pipeline.Value
public import Idealize.ShloMosaic.Lib.ValueIdx

@[expose] public section

set_option maxRecDepth 16384

noncomputable section

/-! What one block of the experts call computes over the extended reals. -/

namespace Cert.Kernel2Ideal.Experts

open Cert.Kernel2Ideal Cert.Kernel2Ideal.Gen Cert.Experts
open Idealize.ShloMosaic Idealize.ShloMosaic.ValueIdx

/-- A cast that drops the two leading axes of size one, read at a row and a column. -/
theorem dropUnits_apply {a b : ℕ} {α : Type} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 0 0 i j) :=
  shapeCast_apply v h (ix2 i j) (ix4 0 0 i j) (by
    rw [Shape.rowMajor_val_four, Shape.rowMajor_val_two]
    show ((0 * 1 + 0) * a + i.val) * b + j.val = i.val * b + j.val
    simp)

/-- A row repeated down the rows, -/
theorem repeatRow_apply {a b : ℕ} (hb : b ≠ 1) {α : Type} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 0 j) :=
  broadcastTo_apply v h (ix2 i j) (ix2 0 j) fun x => by
    match x with
    | ⟨0, _⟩ => exact (if_pos rfl).symm
    | ⟨1, _⟩ => exact (if_neg hb).symm

/-- and a column repeated across the columns. -/
theorem repeatCol_apply {a b : ℕ} (ha : a ≠ 1) {α : Type} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i 0) :=
  broadcastTo_apply v h (ix2 i j) (ix2 i 0) fun x => by
    match x with
    | ⟨0, _⟩ => exact (if_neg ha).symm
    | ⟨1, _⟩ => exact (if_pos rfl).symm

/-- The product of columns with the regrouping matrix, at a row and a column. -/
theorem regroup_apply (a : FVec Ideal S1024x256 .bf16) (b : FVec Ideal S256x256 .bf16) (r : Fin 1024) (c : Fin 256) :
    matmul dot_S1024x256_S256x256_S1024x256_1_0_0_1_n_n none a b (constant S1024x256 .f32 0x00000000#32) (ix2 r c)
      = ∑ k : Fin 256, a (ix2 r k) * b (ix2 k c) := by
  simp only [matmul]
  rw [Ideal.matmul_constant_zero_apply,
    ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  congr 2
  · refine funext fun x => Fin.ext ?_
    match x with
    | ⟨0, _⟩ => rfl
    | ⟨1, _⟩ => exact (DotDims.lhsIdx_val_of_single _ rfl _ _).trans hk
  · refine funext fun x => Fin.ext ?_
    match x with
    | ⟨0, _⟩ => exact (DotDims.rhsIdx_val_of_single _ rfl _ _).trans hk
    | ⟨1, _⟩ => rfl

/-- The first product of a block at a row and a column, -/
theorem up_apply (a : FVec Ideal S512x1024 .bf16) (b : FVec Ideal S1024x256 .bf16) (r : Fin 512) (c : Fin 256) :
    matmul dot_S512x1024_S1024x256_S512x256_1_0_0_1_n_n none a b (constant S512x256 .f32 0x00000000#32) (ix2 r c)
      = ∑ k : Fin 1024, a (ix2 r k) * b (ix2 k c) := by
  simp only [matmul]
  rw [Ideal.matmul_constant_zero_apply,
    ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  congr 2
  · refine funext fun x => Fin.ext ?_
    match x with
    | ⟨0, _⟩ => rfl
    | ⟨1, _⟩ => exact (DotDims.lhsIdx_val_of_single _ rfl _ _).trans hk
  · refine funext fun x => Fin.ext ?_
    match x with
    | ⟨0, _⟩ => exact (DotDims.rhsIdx_val_of_single _ rfl _ _).trans hk
    | ⟨1, _⟩ => rfl

/-- and the second. -/
theorem down_apply (a : FVec Ideal S512x1024 .bf16) (b : FVec Ideal S1024x1024 .bf16) (r : Fin 512) (c : Fin 1024) :
    matmul dot_S512x1024_S1024x1024_S512x1024_1_0_0_1_n_n none a b (constant S512x1024 .f32 0x00000000#32) (ix2 r c)
      = ∑ k : Fin 1024, a (ix2 r k) * b (ix2 k c) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  congr 2
  · refine funext fun x => Fin.ext ?_
    match x with
    | ⟨0, _⟩ => rfl
    | ⟨1, _⟩ => exact (DotDims.lhsIdx_val_of_single _ rfl _ _).trans hk
  · refine funext fun x => Fin.ext ?_
    match x with
    | ⟨0, _⟩ => exact (DotDims.rhsIdx_val_of_single _ rfl _ _).trans hk
    | ⟨1, _⟩ => rfl

/-- The column of the pairs that column `j` of the regrouped ones comes from. -/
def source (j : Fin 256) : Fin 256 := ⟨if j.val < 128 then 2 * j.val else 2 * (j.val - 128) + 1, by split <;> omega⟩

/-- Column `256 k + j` of an array of 2048 columns. -/
def col (k : Fin 8) (j : Fin 256) : Fin 2048 := ⟨256 * k.val + j.val, by omega⟩

variable (x0 : FVec Ideal S512x1024 .f32) (x1 : FVec Ideal S512x1 .f32) (x2 : FVec Ideal S1x1x1024x2048 .f32) (x3 : FVec Ideal S256x256 .bf16)
  (x4 : FVec Ideal S1x1x1x2048 .f32) (x5 : FVec Ideal S1x1x1024x1024 .f32) (x6 : FVec Ideal S1x1x1x1024 .f32)
  (hp : ∀ l j : Fin 256, x3 (ix2 l j) = if l = source j then (1 : EReal) else 0)

theorem window_apply (k : Fin 8) (d : Fin 1024) (l : Fin 256) :
    VecWindow.window x2 ![0, 0, 0, 256 * k.val] S1x1x1024x256.size (gateUp_inb k) (ix4 (n0 := 1) (n1 := 1) 0 0 d l) = x2 (ix4 0 0 d (col k l)) := by
  refine congrArg x2 (funext fun a => Fin.ext ?_)
  match a with
  | ⟨0, _⟩ => rfl
  | ⟨1, _⟩ => rfl
  | ⟨2, _⟩ => show 0 + 1 * d.val = d.val; omega
  | ⟨3, _⟩ => show 256 * k.val + 1 * l.val = 256 * k.val + l.val; omega

include hp in
/-- The product with the regrouping matrix picks one column. -/
theorem regrouped_apply (k : Fin 8) (d : Fin 1024) (j : Fin 256) :
    regrouped (F := Ideal) x2 x3 k (ix2 d j) = x2 (ix4 0 0 d (col k (source j))) := by
  unfold regrouped k0_pay6
  refine (congrFun (shapeCast_self _ _) _).trans ?_
  refine (regroup_apply _ _ d j).trans ?_
  refine (Finset.sum_congr rfl fun l _ => ?_).trans (Finset.sum_ite_eq Finset.univ (source j) fun l => (x2 (ix4 0 0 d (col k l)) : EReal)) |>.trans (if_pos (Finset.mem_univ _))
  have e1 := (dropUnits_apply (VecWindow.window x2 ![0, 0, 0, 256 * k.val] S1x1x1024x256.size (gateUp_inb k)) shapeCasts_S1x1x1024x256_S1024x256 d l).trans (window_apply x2 k d l)
  have e2 : shapeCast S256x256 x3 shapeCasts_S256x256_S256x256 (ix2 l j) = if l = source j then (1 : EReal) else 0 :=
    (congrFun (shapeCast_self _ _) _).trans (hp l j)
  refine (congrArg₂ (· * ·) e1 e2).trans ?_
  by_cases hl : l = source j
  · rw [if_pos hl, if_pos hl.symm]
    exact mul_one _
  · rw [if_neg hl, if_neg (Ne.symm hl)]
    exact mul_zero _

include hp in
theorem cols_apply (k : Fin 8) (d : Fin 1024) (j : Fin 256) :
    scratchCols (F := Ideal) (firstWeights x2 x3) k (ix2 d j) = x2 (ix4 0 0 d (col k (source j))) := by
  rw [← regrouped_apply x2 x3 hp k d j]
  refine (firstWeights_at (F := Ideal) x2 x3 k _ (ix2 d j) ?_ ?_).symm
  · show 0 + 1 * d.val = d.val
    omega
  · show 256 * k.val + 1 * j.val = 256 * k.val + j.val
    omega

theorem bias_apply (k : Fin 8) (j : Fin 256) : biasCols (F := Ideal) x4 k (ix4 (n0 := 1) (n1 := 1) (n2 := 1) 0 0 0 j) = x4 (ix4 0 0 0 (col k j)) := by
  refine congrArg x4 (funext fun a => Fin.ext ?_)
  match a with
  | ⟨0, _⟩ => rfl
  | ⟨1, _⟩ => rfl
  | ⟨2, _⟩ => rfl
  | ⟨3, _⟩ => show 256 * k.val + 1 * j.val = 256 * k.val + j.val; omega

/-- Column `j` of group `k` of the first product, with its bias. -/
def grouped (r : Fin 512) (k : Fin 8) (j : Fin 256) : EReal :=
  (∑ d : Fin 1024, (x0 (ix2 r d) : EReal) * (x2 (ix4 0 0 d (col k (source j))) : EReal)) + (x4 (ix4 0 0 0 (col k j)) : EReal)

include hp in
theorem pay32_apply (r : Fin 512) (k : Fin 8) (j : Fin 256) :
    k0_pay32 (F := Ideal) (k0_pay12 x0) (scratchCols (firstWeights x2 x3) k) (biasCols x4 k) (ix2 r j) = grouped x0 x2 x4 r k j := by
  unfold k0_pay32
  refine congrArg₂ (· + ·) ((up_apply _ _ r j).trans (Finset.sum_congr rfl fun d _ => ?_)) ?_
  · exact congrArg₂ (· * ·) rfl (cols_apply x2 x3 hp k d j)
  · exact (repeatRow_apply (by decide) _ _ r j).trans ((dropUnits_apply _ _ 0 j).trans (bias_apply x4 k j))

/-- The activations of a group from its columns. -/
def groupAct (p : FVec Ideal S512x256 .f32) : FVec Ideal S512x128 .bf16 := fun i =>
  gated (p (ix2 (i 0) ⟨(i 1).val, by have : (i 1).val < 128 := (i 1).isLt; omega⟩)) (p (ix2 (i 0) ⟨128 + (i 1).val, by have : (i 1).val < 128 := (i 1).isLt; omega⟩))

theorem slice_left (p : FVec Ideal S512x256 .f32) (i : S512x128.Idx) :
    extractStridedSlice S512x128 ![0, 0] p slices_S512x256_o0_0_S512x128 i = p (ix2 (i 0) ⟨(i 1).val, by have : (i 1).val < 128 := (i 1).isLt; omega⟩) :=
  extractStridedSlice_apply _ _ _ _ _ fun a => by
    match a with
    | ⟨0, _⟩ => exact (Nat.zero_add _).symm
    | ⟨1, _⟩ => exact (Nat.zero_add _).symm

theorem slice_right (p : FVec Ideal S512x256 .f32) (i : S512x128.Idx) :
    extractStridedSlice S512x128 ![0, 128] p slices_S512x256_o0_128_S512x128 i = p (ix2 (i 0) ⟨128 + (i 1).val, by have : (i 1).val < 128 := (i 1).isLt; omega⟩) :=
  extractStridedSlice_apply _ _ _ _ _ fun a => by
    match a with
    | ⟨0, _⟩ => exact (Nat.zero_add _).symm
    | ⟨1, _⟩ => rfl

/-- The block's result from the activations of the eight groups. -/
def combine (acts : Fin 8 → FVec Ideal S512x128 .bf16) (s1 : FVec Ideal S1024x1024 .bf16) : FVec Ideal S512x1024 .bf16 :=
  truncf .bf16 (mulf (addf (matmul dot_S512x1024_S1024x1024_S512x1024_1_0_0_1_n_n none (concatenate S512x1024 1 [⟨S512x128, acts 0⟩, ⟨S512x128, acts 1⟩, ⟨S512x128, acts 2⟩, ⟨S512x128, acts 3⟩, ⟨S512x128, acts 4⟩, ⟨S512x128, acts 5⟩, ⟨S512x128, acts 6⟩, ⟨S512x128, acts 7⟩] concatenates_S512x128_S512x128_S512x128_S512x128_S512x128_S512x128_S512x128_S512x128_S512x1024_d1) s1 (constant S512x1024 .f32 0x00000000#32))
    (broadcastTo S512x1024 (shapeCast S1x1024 x6 shapeCasts_S1x1x1x1024_S1x1024) broadcasts_S1x1024_S512x1024))
    (broadcastTo S512x1024 x1 broadcasts_S512x1_S512x1024)) bitsLt_bf16_f32

theorem outOf_eq (s : Fin 8 → FVec Ideal S1024x256 .bf16) (b : Fin 8 → FVec Ideal S1x1x1x256 .f32) (s1 : FVec Ideal S1024x1024 .bf16) :
    outOf (F := Ideal) x0 s b s1 x6 x1 = combine x1 x6 (fun k => k0_pay13 x0 (s k) (b k)) s1 := rfl

theorem pay13_eq (s : FVec Ideal S1024x256 .bf16) (b : FVec Ideal S1x1x1x256 .f32) :
    k0_pay13 (F := Ideal) x0 s b = groupAct (k0_pay32 (k0_pay12 x0) s b) := by
  funext i
  have hl := slice_left (k0_pay32 (F := Ideal) (k0_pay12 x0) s b) i
  have hr := slice_right (k0_pay32 (F := Ideal) (k0_pay12 x0) s b) i
  unfold groupAct gated
  rw [← hl, ← hr, ← EReal.neg_mul, ← slope_neg]
  rfl

theorem concat_apply (acts : Fin 8 → FVec Ideal S512x128 .bf16) (r : Fin 512) (f : Fin 1024) :
    concatenate S512x1024 1 [⟨S512x128, acts 0⟩, ⟨S512x128, acts 1⟩, ⟨S512x128, acts 2⟩, ⟨S512x128, acts 3⟩, ⟨S512x128, acts 4⟩, ⟨S512x128, acts 5⟩, ⟨S512x128, acts 6⟩, ⟨S512x128, acts 7⟩] concatenates_S512x128_S512x128_S512x128_S512x128_S512x128_S512x128_S512x128_S512x128_S512x1024_d1 (ix2 r f)
      = acts ⟨f.val / 128, by omega⟩ (ix2 r ⟨f.val % 128, Nat.mod_lt _ (by decide)⟩) :=
  concatenate_ofFn_apply (t := S512x1024) (s₁ := S512x128) 1 acts concatenates_S512x128_S512x128_S512x128_S512x128_S512x128_S512x128_S512x128_S512x128_S512x1024_d1
    rfl 128 rfl (ix2 r f) ⟨f.val / 128, by omega⟩ rfl (ix2 r ⟨f.val % 128, Nat.mod_lt _ (by decide)⟩) rfl fun b hb => by
      match b with
      | ⟨0, _⟩ => rfl
      | ⟨1, _⟩ => exact absurd rfl hb

include hp in
/-- A block of the result at a row and a column. -/
theorem expertOut_apply (r : Fin 512) (c : Fin 1024) :
    expertOut (F := Ideal) x0 x1 x4 x6 (firstWeights x2 x3) (k0_pay3 (F := Ideal) x5) (ix2 r c)
      = ((∑ f : Fin 1024, gated (grouped x0 x2 x4 r ⟨f.val / 128, by omega⟩ ⟨f.val % 128, by omega⟩)
          (grouped x0 x2 x4 r ⟨f.val / 128, by omega⟩ ⟨128 + f.val % 128, by omega⟩) * (x5 (ix4 0 0 f c) : EReal))
        + (x6 (ix4 0 0 0 c) : EReal)) * (x1 (ix2 r 0) : EReal) := by
  unfold expertOut
  rw [outOf_eq]
  unfold combine
  refine congrArg₂ (· * ·) (congrArg₂ (· + ·) ((down_apply _ _ r c).trans (Finset.sum_congr rfl fun f _ => ?_)) ?_) ?_
  · refine congrArg₂ (· * ·) ((concat_apply (fun k => k0_pay13 (F := Ideal) x0 (scratchCols (firstWeights x2 x3) k) (biasCols x4 k)) r f).trans ?_) ?_
    · rw [pay13_eq]
      exact congrArg₂ gated (pay32_apply x0 x2 x3 x4 hp r _ _) (pay32_apply x0 x2 x3 x4 hp r _ _)
    · unfold k0_pay3
      exact (congrFun (shapeCast_self _ _) _).trans (dropUnits_apply x5 shapeCasts_S1x1x1024x1024_S1024x1024 f c)
  · exact (repeatRow_apply (by decide) _ _ r c).trans (dropUnits_apply _ _ 0 c)
  · exact repeatCol_apply (by decide) _ _ r c

end Cert.Kernel2Ideal.Experts

end
-- ==== Proof.ExpertsValue.lean ====
module

public import proofs.«01_k».proof.Proof.ExpertsBody
public import proofs.«01_k».proof.Proof.ExpertsIdeal
public import Idealize.ShloMosaic.Lib.Pipeline.ValueKit
public import Idealize.ShloMosaic.Lib.Pipeline.Covers
public import Idealize.ShloMosaic.Lib.KernelVsHost

@[expose] public section

set_option maxRecDepth 16384

noncomputable section

/-! The experts call's value: the experts' layer. -/

namespace Cert.Kernel2Ideal.Experts

open Cert.Kernel2Ideal Cert.Kernel2Ideal.Gen Cert.Experts
open Idealize.ShloMosaic Idealize.ShloMosaic.TcCoe Idealize.SL.Sem

variable (m : (ℓ : Loc nD τ sig) → Buf (Elt Ideal) ℓ) (c : Dev nD)

/-- The call's float arguments. -/
abbrev argX : FVec Ideal S82944x1024 .f32 := m ((c : Thread nD τ).loc main_arg2)
abbrev argG : FVec Ideal S82944x1 .f32 := m ((c : Thread nD τ).loc main_arg3)
abbrev argW1 : FVec Ideal S2x32x1024x2048 .f32 := m ((c : Thread nD τ).loc main_arg4)
abbrev argB1 : FVec Ideal S2x32x2048 .f32 := m ((c : Thread nD τ).loc main_arg5)
abbrev argW2 : FVec Ideal S2x32x1024x1024 .f32 := m ((c : Thread nD τ).loc main_arg6)
abbrev argB2 : FVec Ideal S2x32x1024 .f32 := m ((c : Thread nD τ).loc main_arg7)

/-! ## What the host code hands over -/

set_option maxHeartbeats 1600000 in
theorem V_v2 : V m c main_v2 = (shapeCast S2x32x1x2048 (transpose S2x32x8x2x128 [0, 1, 2, 4, 3]
      (shapeCast S2x32x8x128x2 (argB1 m c) shapeCasts_S2x32x2048_S2x32x8x128x2) transposes_S2x32x8x128x2_S2x32x8x2x128_0_1_2_4_3)
      shapeCasts_S2x32x8x2x128_S2x32x1x2048 : FVec Ideal S2x32x1x2048 .f32) := by
  simp only [V, hostOps0, List.flatten_cons, List.flatten_nil, List.append_nil, List.cons_append, List.nil_append]
  after_results <;> rfl

set_option maxHeartbeats 1600000 in
theorem V_v3 : V m c main_v3 = (shapeCast S2x32x1x1024 (argB2 m c) shapeCasts_S2x32x1024_S2x32x1x1024 : FVec Ideal S2x32x1x1024 .f32) := by
  simp only [V, hostOps0, List.flatten_cons, List.flatten_nil, List.append_nil, List.cons_append, List.nil_append]
  after_results <;> rfl

/-- Where the regrouping matrix has its ones. -/
def sourceWord : IVec S256x256 32 :=
  select (cmpi .slt (iotaInDim S256x256 32 1) (broadcastInDim S256x256 ![] bcast_S_S256x256 (constantI S_ 32 128#32)))
    (muli (broadcastInDim S256x256 ![] bcast_S_S256x256 (constantI S_ 32 2#32)) (iotaInDim S256x256 32 1))
    (addi (muli (broadcastInDim S256x256 ![] bcast_S_S256x256 (constantI S_ 32 2#32))
        (subi (iotaInDim S256x256 32 1) (broadcastInDim S256x256 ![] bcast_S_S256x256 (constantI S_ 32 128#32))))
      (broadcastInDim S256x256 ![] bcast_S_S256x256 (constantI S_ 32 1#32)))

set_option maxHeartbeats 3200000 in
theorem V_v20 : V m c main_v20 = (select (cmpi .eq (iotaInDim S256x256 32 0) sourceWord)
      (broadcastInDim S256x256 ![] bcast_S_S256x256 (constant S_ .bf16 0x3F80#16))
      (broadcastInDim S256x256 ![] bcast_S_S256x256 (constant S_ .bf16 0x0000#16)) : FVec Ideal S256x256 .bf16) := by
  unfold sourceWord
  simp only [V, hostOps0, List.flatten_cons, List.flatten_nil, List.append_nil, List.cons_append, List.nil_append]
  after_results <;> rfl

theorem sourceWord_apply (l j : Fin 256) : sourceWord (ValueIdx.ix2 l j) = BitVec.ofNat 32 (source j).val := by
  have h : ∀ j : Fin 256, Scalar.select (IntOp.cmpi .slt (BitVec.ofNat 32 j.val) 128#32) (IntOp.muli 2#32 (BitVec.ofNat 32 j.val))
      (IntOp.addi (IntOp.muli 2#32 (IntOp.subi (BitVec.ofNat 32 j.val) 128#32)) 1#32) = BitVec.ofNat 32 (source j).val := by decide +kernel
  exact h j

/-- The regrouping matrix at a row and a column. -/
theorem perm_apply (l j : Fin 256) : (V m c main_v20 : FVec Ideal S256x256 .bf16) (ValueIdx.ix2 l j) = if l = source j then (1 : EReal) else 0 := by
  rw [V_v20]
  show Scalar.select (BitVec.ofBool (BitVec.ofNat 32 l.val == sourceWord (ValueIdx.ix2 l j))) (Ideal.ofBits .bf16 0x3F80#16) (Ideal.ofBits .bf16 0x0000#16) = _
  rw [sourceWord_apply]
  have h1 : Ideal.ofBits .bf16 0x3F80#16 = 1 := by
    simp [Ideal.ofBits, Ideal.ieee, -EReal.coe_mul]
    norm_num
  have h0 : Ideal.ofBits .bf16 0x0000#16 = 0 := by simp [Ideal.ofBits, Ideal.ieee]
  rw [h1, h0]
  by_cases hl : l = source j
  · rw [if_pos hl, hl, beq_self_eq_true]
    rfl
  · have hn : (BitVec.ofNat 32 l.val == BitVec.ofNat 32 (source j).val) = false := by
      refine beq_eq_false_iff_ne.mpr fun e => hl (Fin.ext ?_)
      have e' := congrArg BitVec.toNat e
      have := l.isLt
      have := (source j).isLt
      simp only [BitVec.toNat_ofNat] at e'
      omega
    rw [if_neg hl, hn]
    rfl

theorem bias1_apply (e : Fin 32) (k : Fin 8) (j : Fin 256) :
    (V m c main_v2 : FVec Ideal S2x32x1x2048 .f32) (ValueIdx.ix4 0 e 0 (col k j)) = argB1 m c (ValueIdx.ix3 0 e (col k (source j))) := by
  rw [V_v2]
  have hj := j.isLt
  have hk := k.isLt
  have he := e.isLt
  refine (shapeCast_apply _ _ _ (ValueIdx.ix5 (n0 := 2) 0 e k (⟨j.val / 128, by omega⟩ : Fin 2) (⟨j.val % 128, by omega⟩ : Fin 128)) ?_).trans ?_
  · rw [Shape.rowMajor_val_five, Shape.rowMajor_val_four]
    show (((0 * 32 + e.val) * 8 + k.val) * 2 + j.val / 128) * 128 + j.val % 128 = ((0 * 32 + e.val) * 1 + 0) * 2048 + (256 * k.val + j.val)
    omega
  refine (transpose_apply _ _ _ _ (ValueIdx.ix5 (n0 := 2) 0 e k (⟨j.val % 128, by omega⟩ : Fin 128) (⟨j.val / 128, by omega⟩ : Fin 2)) fun a => ?_).trans ?_
  · match a with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_five, Shape.rowMajor_val_three]
  show (0 * 32 + e.val) * 2048 + (256 * k.val + (if j.val < 128 then 2 * j.val else 2 * (j.val - 128) + 1))
    = (((0 * 32 + e.val) * 8 + k.val) * 128 + j.val % 128) * 2 + j.val / 128
  split <;> omega

theorem bias2_apply (e : Fin 32) (j : Fin 1024) :
    (V m c main_v3 : FVec Ideal S2x32x1x1024 .f32) (ValueIdx.ix4 0 e 0 j) = argB2 m c (ValueIdx.ix3 0 e j) := by
  rw [V_v3]
  refine shapeCast_apply _ _ _ _ ?_
  rw [Shape.rowMajor_val_four, Shape.rowMajor_val_three]
  show (0 * 32 + e.val) * 1024 + j.val = ((0 * 32 + e.val) * 1 + 0) * 1024 + j.val
  omega

/-! ## The tables' words -/

variable (hO : Ok m)

/-- The block of slots a grid point computes. -/
abbrev blockOf (t : Fin (cfgA m hO).N) : Fin 162 := ⟨t.val, t.isLt⟩

theorem off_val : ∀ t : Fin grid0.N, k0_off1 (grid0.coords t) 0 = t.val := by decide +kernel

theorem word_val : ∀ t : Fin grid0.N, (BitVec.ofNat 32 (grid0.coords t 0).val).toNat = t.val := by decide +kernel

theorem expertAt_eq (t : Fin (cfgA m hO).N) : expertAt (F := Ideal) (crd m hO t) (tabE m) = tabE m (ValueIdx.ix1 (blockOf m hO t)) := by
  refine congrArg (tabE m) (funext fun a => Fin.ext ?_)
  match a with
  | ⟨0, _⟩ =>
    show k0_off1 (grid0.coords t) 0 + 1 * 0 = t.val
    rw [off_val]
    rfl

theorem used_eq : used (F := Ideal) (tabN m) = tabN m (ValueIdx.ix1 0) := by
  refine congrArg (tabN m) (funext fun a => Fin.ext ?_)
  match a with
  | ⟨0, _⟩ => rfl

variable (e : Fin 162 → Fin 32) (he : ∀ t, (tabE m (ValueIdx.ix1 t) : BitVec 32).toNat = (e t).val)

/-! ## The blocks -/

theorem blk0_apply (t : Fin (cfgA m hO).N) (r : Fin 512) (d : Fin 1024) :
    blk0 m hO c t (ValueIdx.ix2 r d) = argX m c (ValueIdx.ix2 (slot (blockOf m hO t) r) d) := by
  refine Eq.trans ?_ (congrFun (V_main_arg2 m c) _)
  refine congrArg (V m c main_arg2) (funext fun a => Fin.ext ?_)
  match a with
  | ⟨0, _⟩ =>
    show (BitVec.ofNat 32 (grid0.coords t 0).val).toNat * 512 + 1 * r.val = 512 * t.val + r.val
    rw [word_val]; omega
  | ⟨1, _⟩ => show 0 * 1024 + 1 * d.val = d.val; omega

theorem blk1_apply (t : Fin (cfgA m hO).N) (r : Fin 512) :
    blk1 m hO c t (ValueIdx.ix2 r 0) = argG m c (ValueIdx.ix2 (slot (blockOf m hO t) r) 0) := by
  refine Eq.trans ?_ (congrFun (V_main_arg3 m c) _)
  refine congrArg (V m c main_arg3) (funext fun a => Fin.ext ?_)
  match a with
  | ⟨0, _⟩ =>
    show (BitVec.ofNat 32 (grid0.coords t 0).val).toNat * 512 + 1 * r.val = 512 * t.val + r.val
    rw [word_val]; omega
  | ⟨1, _⟩ => rfl

theorem blk3_apply (t : Fin (cfgA m hO).N) (l j : Fin 256) :
    blk3 m hO c t (ValueIdx.ix2 l j) = (V m c main_v20 : FVec Ideal S256x256 .bf16) (ValueIdx.ix2 l j) := by
  refine congrArg (V m c main_v20) (funext fun a => Fin.ext ?_)
  match a with
  | ⟨0, _⟩ => show 0 * 256 + 1 * l.val = l.val; omega
  | ⟨1, _⟩ => show 0 * 256 + 1 * j.val = j.val; omega

include he

theorem expert_val (t : Fin (cfgA m hO).N) : (expertAt (F := Ideal) (crd m hO t) (tabE m)).toNat = (e (blockOf m hO t)).val :=
  (congrArg BitVec.toNat (expertAt_eq m hO t)).trans (he _)

theorem blk2_apply (t : Fin (cfgA m hO).N) (d : Fin 1024) (j : Fin 2048) :
    blk2 m hO c t (ValueIdx.ix4 (n0 := 1) (n1 := 1) 0 0 d j) = argW1 m c (ValueIdx.ix4 0 (e (blockOf m hO t)) d j) := by
  refine Eq.trans ?_ (congrFun (V_main_arg4 m c) _)
  refine congrArg (V m c main_arg4) (funext fun a => Fin.ext ?_)
  match a with
  | ⟨0, _⟩ => rfl
  | ⟨1, _⟩ =>
    show (expertAt (F := Ideal) (crd m hO t) (tabE m)).toNat * 1 + 1 * 0 = (e (blockOf m hO t)).val
    rw [expert_val m hO e he]; omega
  | ⟨2, _⟩ => show 0 * 1024 + 1 * d.val = d.val; omega
  | ⟨3, _⟩ => show 0 * 2048 + 1 * j.val = j.val; omega

theorem blk4_apply (t : Fin (cfgA m hO).N) (j : Fin 2048) :
    blk4 m hO c t (ValueIdx.ix4 (n0 := 1) (n1 := 1) (n2 := 1) 0 0 0 j)
      = (V m c main_v2 : FVec Ideal S2x32x1x2048 .f32) (ValueIdx.ix4 0 (e (blockOf m hO t)) 0 j) := by
  refine congrArg (V m c main_v2) (funext fun a => Fin.ext ?_)
  match a with
  | ⟨0, _⟩ => rfl
  | ⟨1, _⟩ =>
    show (expertAt (F := Ideal) (crd m hO t) (tabE m)).toNat * 1 + 1 * 0 = (e (blockOf m hO t)).val
    rw [expert_val m hO e he]; omega
  | ⟨2, _⟩ => rfl
  | ⟨3, _⟩ => show 0 * 2048 + 1 * j.val = j.val; omega

theorem blk5_apply (t : Fin (cfgA m hO).N) (f j : Fin 1024) :
    blk5 m hO c t (ValueIdx.ix4 (n0 := 1) (n1 := 1) 0 0 f j) = argW2 m c (ValueIdx.ix4 0 (e (blockOf m hO t)) f j) := by
  refine Eq.trans ?_ (congrFun (V_main_arg6 m c) _)
  refine congrArg (V m c main_arg6) (funext fun a => Fin.ext ?_)
  match a with
  | ⟨0, _⟩ => rfl
  | ⟨1, _⟩ =>
    show (expertAt (F := Ideal) (crd m hO t) (tabE m)).toNat * 1 + 1 * 0 = (e (blockOf m hO t)).val
    rw [expert_val m hO e he]; omega
  | ⟨2, _⟩ => show 0 * 1024 + 1 * f.val = f.val; omega
  | ⟨3, _⟩ => show 0 * 1024 + 1 * j.val = j.val; omega

theorem blk6_apply (t : Fin (cfgA m hO).N) (j : Fin 1024) :
    blk6 m hO c t (ValueIdx.ix4 (n0 := 1) (n1 := 1) (n2 := 1) 0 0 0 j)
      = argB2 m c (ValueIdx.ix3 0 (e (blockOf m hO t)) j) := by
  rw [← bias2_apply]
  refine congrArg (V m c main_v3) (funext fun a => Fin.ext ?_)
  match a with
  | ⟨0, _⟩ => rfl
  | ⟨1, _⟩ =>
    show (expertAt (F := Ideal) (crd m hO t) (tabE m)).toNat * 1 + 1 * 0 = (e (blockOf m hO t)).val
    rw [expert_val m hO e he]; omega
  | ⟨2, _⟩ => rfl
  | ⟨3, _⟩ => show 0 * 1024 + 1 * j.val = j.val; omega

/-- A group's column is one of the first product's. -/
theorem grouped_eq (t : Fin (cfgA m hO).N) (r : Fin 512) (k : Fin 8) (j : Fin 256) :
    grouped (blk0 m hO c t) (blk2 m hO c t) (blk4 m hO c t) r k j
      = upGate e (argX m c) (argW1 m c) (argB1 m c) (blockOf m hO t) r (col k (source j)) := by
  unfold grouped upGate
  refine congrArg₂ (· + ·) (Finset.sum_congr rfl fun d _ => congrArg₂ (· * ·) ?_ ?_) ?_
  · exact blk0_apply m c hO t r d
  · exact blk2_apply m c hO e he t d _
  · exact (blk4_apply m c hO e he t _).trans (bias1_apply m c _ k j)

theorem expertOut_eq (t : Fin (cfgA m hO).N) (r : Fin 512) (j : Fin 1024) :
    expertOut (F := Ideal) (blk0 m hO c t) (blk1 m hO c t) (blk4 m hO c t) (blk6 m hO c t) (kept1 m hO c t) (kept2 m hO c t) (ValueIdx.ix2 r j)
      = expert e (argX m c) (argG m c) (argW1 m c) (argB1 m c) (argW2 m c) (argB2 m c) (blockOf m hO t) r j := by
  refine (expertOut_apply (blk0 m hO c t) (blk1 m hO c t) (blk2 m hO c t) (blk3 m hO c t) (blk4 m hO c t) (blk5 m hO c t) (blk6 m hO c t)
    (fun l i => (blk3_apply m c hO t l i).trans (perm_apply m c l i)) r j).trans ?_
  unfold expert activation
  refine congrArg₂ (· * ·) (congrArg₂ (· + ·) (Finset.sum_congr rfl fun f _ => congrArg₂ (· * ·) (congrArg₂ gated ?_ ?_) ?_) ?_) ?_
  · refine (grouped_eq m c hO e he t r _ _).trans (congrArg _ (Fin.ext ?_))
    show 256 * (f.val / 128) + (if f.val % 128 < 128 then 2 * (f.val % 128) else 2 * (f.val % 128 - 128) + 1) = 2 * f.val
    split <;> omega
  · refine (grouped_eq m c hO e he t r _ _).trans (congrArg _ (Fin.ext ?_))
    show 256 * (f.val / 128) + (if 128 + f.val % 128 < 128 then 2 * (128 + f.val % 128) else 2 * (128 + f.val % 128 - 128) + 1) = 2 * f.val + 1
    split <;> omega
  · exact blk5_apply m c hO e he t f j
  · exact blk6_apply m c hO e he t j
  · exact blk1_apply m c hO t r

/-- A block of the result, at a row and a column. -/
theorem block_apply (t : Fin (cfgA m hO).N) (r : Fin 512) (j : Fin 1024) :
    blockOut m hO c t (ValueIdx.ix2 r j)
      = layer e (argX m c) (argG m c) (argW1 m c) (argB1 m c) (argW2 m c) (argB2 m c) (tabN m (ValueIdx.ix1 0)) (blockOf m hO t) r j := by
  have hc : k0_cond2 (crd m hO t) (used (F := Ideal) (tabN m)) = BitVec.ofBool ((BitVec.ofNat 32 t.val).slt (tabN m (ValueIdx.ix1 0))) := by
    rw [cond2_eq, used_eq]
    exact congrArg (fun n => BitVec.ofBool ((BitVec.ofNat 32 n).slt (tabN m (ValueIdx.ix1 0)))) (crd_val t)
  unfold layer
  by_cases h : (BitVec.ofNat 32 t.val).slt (tabN m (ValueIdx.ix1 0)) = true
  · rw [if_pos h, blockOut_some m hO c t (by rw [hc, h]; rfl)]
    exact expertOut_eq m c hO e he t r j
  · rw [if_neg h, blockOut_none m hO c t (by rw [hc, Bool.eq_false_of_not_eq_true h]; decide)]
    show Ideal.ofBits .bf16 0x0000#16 = 0
    simp [Ideal.ofBits, Ideal.ieee]

omit he in
theorem covers : ((cfgA m hO).win (7 : Fin 8)).Covers :=
  Pipeline.Window.covers_of_index_surj _ rfl (fun a => by match a with | ⟨0, _⟩ => exact (by decide : 0 < 512) | ⟨1, _⟩ => exact (by decide : 0 < 1024)) fun β => by
    have h0 : (β (0 : Fin 2)).val < 162 := lt_of_lt_of_eq (β (0 : Fin 2)).isLt (show (82944 + 512 - 1) / 512 = 162 by decide)
    have h1 : (β (1 : Fin 2)).val < 1 := lt_of_lt_of_eq (β (1 : Fin 2)).isLt (show (1024 + 1024 - 1) / 1024 = 1 by decide)
    refine ⟨⟨(β (0 : Fin 2)).val, h0⟩, fun a => ?_⟩
    match a with
    | ⟨0, _⟩ => exact word_val ⟨(β (0 : Fin 2)).val, h0⟩
    | ⟨1, _⟩ => exact (Nat.lt_one_iff.mp h1).symm

/-- What the call leaves in its result. -/
theorem final : (dats m hO 0 c).arrAt (7 : Fin 8) (cfgA m hO).N = (fun i => layer e (argX m c) (argG m c) (argW1 m c) (argB1 m c) (argW2 m c) (argB2 m c)
    (tabN m (ValueIdx.ix1 0)) ⟨(i 0).val / 512, by have : (i 0).val < 82944 := (i 0).isLt; omega⟩ ⟨(i 0).val % 512, Nat.mod_lt _ (by decide)⟩ (i 1)
      : FVec Ideal S82944x1024 .bf16) := by
  refine (dats m hO 0 c).arrAt_eq_of_covers (7 : Fin 8) _ (covers m hO) fun t hf y => ?_
  have hy0 : (y 0).val < 512 := (y 0).isLt
  have hy1 : (y 1).val < 1024 := (y 1).isLt
  have ey : (y : S512x1024.Idx) = ValueIdx.ix2 (⟨(y 0).val, hy0⟩ : Fin 512) (⟨(y 1).val, hy1⟩ : Fin 1024) := by
    funext a; match a with | ⟨0, _⟩ => rfl | ⟨1, _⟩ => rfl
  have i0 : ((((cfgA m hO).win (7 : Fin 8)).blk t).view.emb y 0).val = 512 * t.val + (y 0).val := by
    show (BitVec.ofNat 32 (grid0.coords t 0).val).toNat * 512 + 1 * (y 0).val = 512 * t.val + (y 0).val
    rw [word_val]; omega
  have i1 : ((((cfgA m hO).win (7 : Fin 8)).blk t).view.emb y 1).val = (y 1).val := by
    show 0 * 1024 + 1 * (y 1).val = (y 1).val
    omega
  refine Eq.trans (b := blockOut m hO c t y) ?_ ?_
  · exact congrFun (after0_7 m hO c t) y
  refine (congrArg (blockOut m hO c t) ey).trans ((block_apply m c hO e he t _ _).trans ?_)
  congr 1
  · exact Fin.ext (show t.val = _ / 512 by rw [i0]; omega)
  · exact Fin.ext (show (y 0).val = _ % 512 by rw [i0]; omega)
  · exact Fin.ext i1.symm

end Cert.Kernel2Ideal.Experts

end
-- ==== Proof.ExpertsAgree.lean ====
module

public import proofs.«01_k».proof.Proof.ExpertsRef
public import proofs.«01_k».proof.Proof.ExpertsValue

@[expose] public section

set_option maxRecDepth 16384

noncomputable section

/-! The experts call's run with its result, and the reference's value of the same arguments. -/

namespace Cert.Kernel2Ideal.Experts

open Cert.Kernel2Ideal Cert.Kernel2Ideal.Gen Cert.Experts
open Idealize.ShloMosaic Idealize.ShloMosaic.TcCoe Idealize.SL.Sem

variable (m : (ℓ : Loc nD τ sig) → Buf (Elt Ideal) ℓ) (ρ : Dev nD → PrngReg) (hO : Ok m)

/-- The call leaves its result window's array, and its arguments as they were. -/
theorem run_value : θ_run defs (onTc (τ := τ) (main (F := Ideal))) ⟨m, fun _ => 0, ρ⟩ (fun r => ∀ c : Dev nD,
      r.2.mem ((c.tc : Thread nD τ).loc main_v21) = (dats m hO 0 c).arrAt (7 : Fin 8) (cfgA m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨h.1 c, h.2.1 c⟩)
    (θ_run_and (Q₁ := fun r => ∀ c : Dev nD, r.2.mem ((c.tc : Thread nD τ).loc main_v21) = (dats m hO 0 c).arrAt (7 : Fin 8) (cfgA m hO).N)
      ((θ_run defs _ _).mono (fun _ h c => (h.1 c).1 (7 : Fin 8)) (run_main_quiescent m ρ hO)) (frame_claim m ρ hO))

/-- The reference's value of the call's arguments is what the call leaves, when every block's expert is one of the thirty-two. -/
theorem values_agree (c : Dev nD) (h : ∀ x : S162.Idx, (tabE m x : BitVec 32).toNat < 32) :
    Cert.Reference2Ideal.Read.val_main_v72 (F := Ideal) (tabE m) (tabN m) (argX m c) (argG m c) (argW1 m c) (argB1 m c) (argW2 m c) (argB2 m c)
      = (dats m hO 0 c).arrAt (7 : Fin 8) (cfgA m hO).N := by
  rw [final m c hO (fun t => ⟨(tabE m (ValueIdx.ix1 t) : BitVec 32).toNat, h _⟩) (fun t => rfl)]
  funext i
  have h0 : (i 0).val < 82944 := (i 0).isLt
  have e : i = ValueIdx.ix2 (slot ⟨(i 0).val / 512, by omega⟩ ⟨(i 0).val % 512, Nat.mod_lt _ (by decide)⟩) (i 1) := by
    refine (ValueIdx.eq_ix2 i).trans ?_
    congr 1
    exact Fin.ext (show (i 0).val = 512 * ((i 0).val / 512) + (i 0).val % 512 by omega)
  refine (congrArg (Cert.Reference2Ideal.Read.val_main_v72 (F := Ideal) (tabE m) (tabN m) (argX m c) (argG m c) (argW1 m c) (argB1 m c)
    (argW2 m c) (argB2 m c)) e).trans ?_
  exact Cert.Reference2Ideal.Read.result_spec (tabE m) (tabN m) (argX m c) (argG m c) (argW1 m c) (argB1 m c) (argW2 m c) (argB2 m c)
    (fun t => ⟨(tabE m (ValueIdx.ix1 t) : BitVec 32).toNat, h _⟩) (fun t => rfl) _ _ (i 1)

end Cert.Kernel2Ideal.Experts

end
-- ==== Proof.Same.lean ====
module

public import proofs.«01_k».proof.Defs
public import Idealize.ShloMosaic.Adequacy
public import proofs.«01_k».proof.KernelIdeal
public import proofs.«01_k».proof.Proof.Gen.Kernel
public import proofs.«01_k».proof.Proof.Gen.KernelIdeal

@[expose] public section

set_option maxRecDepth 16384

noncomputable section

/-! The kernel printed for the bits and the one printed for the extended reals have the same text. -/

namespace Cert.Same

open Idealize.ShloMosaic Idealize.SL.Sem

/-- The two prints of the call's body are one table, -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

/-- and so are the two programs' tables. -/
theorem defs_eq : Cert.Kernel.defs (F := Bits) = Cert.KernelIdeal.defs (F := Bits) :=
  congrArg (Pipeline.defs (Cert.KernelIdeal.pcfgs (F := Bits))) bodies_eq

end Cert.Same

end
-- ==== Proof.Finite.lean ====
module

public import proofs.«01_k».proof.Pre_finite
public import Idealize.ShloMosaic.Lib.Pipeline.Value
public import Idealize.ShloMosaic.Lib.ValueIdx
public import Idealize.ShloMosaic.PureOps.Ideal.Laws

@[expose] public section

set_option maxRecDepth 16384

noncomputable section

/-! What the precondition says: every query and every key is a real number. -/

namespace Cert.Pre_finite

open Cert.Pre_finite
open Idealize.ShloMosaic Idealize.ShloMosaic.ValueIdx

variable [Facts]

/-- A magnitude below infinity is a real number's. -/
theorem real_of_abs (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

variable (q : FVec Ideal S16384x4x192 .f32) (k : FVec Ideal S16640x4x192 .f32) (v : FVec Ideal S16640x4x128 .f32)
  (hpre : fn (F := Ideal) q k v = fun _ => 1#1)

include hpre

theorem queries_real (s : Fin 16384) (h : Fin 4) (d : Fin 192) : ∃ r : ℝ, q (ix3 s h d) = (r : EReal) := by
  have e := congrFun hpre (ix3 (⟨s.val, by omega⟩ : Fin 33024) h d)
  have r := concatenate_pair_apply_left 0 q k Facts.concatenates_S16384x4x192_S16640x4x192_S33024x4x192_d0
    (ix3 (⟨s.val, by omega⟩ : Fin 33024) h d) rfl (ix3 s h d) fun a => by
      match a with
      | ⟨0, _⟩ => rfl
      | ⟨1, _⟩ => rfl
      | ⟨2, _⟩ => rfl
  refine real_of_abs _ ?_
  rw [← r]; exact e

theorem keys_real (t : Fin 16640) (h : Fin 4) (d : Fin 192) : ∃ r : ℝ, k (ix3 t h d) = (r : EReal) := by
  have e := congrFun hpre (ix3 (⟨16384 + t.val, by omega⟩ : Fin 33024) h d)
  have r := concatenate_pair_apply_right 0 q k Facts.concatenates_S16384x4x192_S16640x4x192_S33024x4x192_d0
    (ix3 (⟨16384 + t.val, by omega⟩ : Fin 33024) h d) rfl rfl (ix3 t h d) (fun a ha => by
      match a with
      | ⟨0, _⟩ => exact absurd rfl ha
      | ⟨1, _⟩ => rfl
      | ⟨2, _⟩ => rfl) (Nat.add_comm t.val 16384)
  refine real_of_abs _ ?_
  rw [← r]; exact e

end Cert.Pre_finite

end
-- ==== Proof.Entry.lean ====
module

public import proofs.«01_k».proof.Proof.Gen.KernelIdeal.Frame
public import Idealize.ShloMosaic.Lib.Claim
public import Idealize.ShloMosaic.Lib.Pipeline.ValueKit
public import Idealize.ShloMosaic.Lib.ValueIdx
public import Idealize.ShloMosaic.PureOps.Ideal.Laws

@[expose] public section

set_option maxRecDepth 16384

noncomputable section

/-! The arrays the host hands to the attention call, read at an element, and the blocks a grid point is given. -/

namespace Cert.KernelIdeal.Flash

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The kernel's three arguments: queries, keys and values. -/
abbrev argQ : FVec Ideal S16384x4x192 .f32 := m ((c : Thread nD τ).loc main_arg0)
abbrev argK : FVec Ideal S16640x4x192 .f32 := m ((c : Thread nD τ).loc main_arg1)
abbrev argV : FVec Ideal S16640x4x128 .f32 := m ((c : Thread nD τ).loc main_arg2)

/-- Grid point `t` is head `t / 16` and row tile `t % 16`. -/
theorem blockIndex : ∀ t : Fin cfg0.N, win0_0.index t = ![t.val / 16, t.val % 16, 0] ∧ win0_1.index t = ![t.val / 16, 0, 0]
    ∧ win0_2.index t = ![t.val / 16, 0, 0] ∧ win0_3.index t = ![t.val % 16, t.val / 16] ∧ t.val / 16 < 4 :=
  (by decide +kernel : ∀ t : Fin grid0.N, _)

/-- The head of a grid point. -/
abbrev headOf (t : Fin cfg0.N) : Fin 4 := ⟨t.val / 16, (blockIndex t).2.2.2.2⟩

/-- The row of the array that row `r` of the point's tile is. -/
abbrev rowOf (t : Fin cfg0.N) (r : Fin 1024) : Fin 16384 :=
  ⟨1024 * (t.val % 16) + r.val, by have := r.isLt; have := Nat.mod_lt t.val (show 16 > 0 by decide); omega⟩

theorem iblk0_apply (t : Fin cfg0.N) (r : Fin 1024) (d : Fin 256) :
    (iblk m c 0 t : Vec Ideal S1x1024x256 .bf16) (ValueIdx.ix3 0 r d)
      = (V m c main_v7 : FVec Ideal S4x16384x256 .bf16) (ValueIdx.ix3 (headOf t) (rowOf t r) d) := by
  blk_ext [iblk, blockIndex t]
  show t.val % 16 * 1024 + r.val = 1024 * (t.val % 16) + r.val
  omega

theorem iblk1_apply (t : Fin cfg0.N) (k : Fin 16640) (d : Fin 256) :
    (iblk m c 1 t : Vec Ideal S1x16640x256 .bf16) (ValueIdx.ix3 0 k d)
      = (V m c main_v10 : FVec Ideal S4x16640x256 .bf16) (ValueIdx.ix3 (headOf t) k d) := by
  blk_ext [iblk, blockIndex t]

theorem iblk2_apply (t : Fin cfg0.N) (k : Fin 16640) (d : Fin 256) :
    (iblk m c 2 t : Vec Ideal S1x16640x256 .bf16) (ValueIdx.ix3 0 k d)
      = (V m c main_v14 : FVec Ideal S4x16640x256 .bf16) (ValueIdx.ix3 (headOf t) k d) := by
  blk_ext [iblk, blockIndex t]

set_option maxHeartbeats 1600000 in
/-- The queries handed over: transposed, padded with zeros to 256 columns and scaled; -/
theorem V_v7 : V m c main_v7 = (truncf .bf16 (mulf (pad S4x16384x256 ![0, 0, 0] ![0, 0, 64] ![0, 0, 0]
      (transpose S4x16384x192 [1, 0, 2] (argQ m c) transposes_S16384x4x192_S4x16384x192_1_0_2)
      (sitofp .f32 (constantI S_ 32 0#32)) pads_S4x16384x192_S4x16384x256_000_000_0640 h_S_)
    (broadcastInDim S4x16384x256 ![] bcast_S_S4x16384x256
      (Host.divf (Host.rsqrt (constant S_ .f32 0x43400000#32)) (Host.log (constant S_ .f32 0x40000000#32))))) bitsLt_bf16_f32 : FVec Ideal S4x16384x256 .bf16) := by
  simp only [V, hostOps0, hostOps0_1, hostOps0_2, hostOps0_3, hostOps0_4, List.flatten_cons, List.flatten_nil, List.append_nil,
    List.cons_append, List.nil_append]
  after_results <;> rfl

set_option maxHeartbeats 1600000 in
/-- the keys: transposed and padded; -/
theorem V_v10 : V m c main_v10 = (truncf .bf16 (pad S4x16640x256 ![0, 0, 0] ![0, 0, 64] ![0, 0, 0]
      (transpose S4x16640x192 [1, 0, 2] (argK m c) transposes_S16640x4x192_S4x16640x192_1_0_2)
      (sitofp .f32 (constantI S_ 32 0#32)) pads_S4x16640x192_S4x16640x256_000_000_0640 h_S_) bitsLt_bf16_f32 : FVec Ideal S4x16640x256 .bf16) := by
  simp only [V, hostOps0, hostOps0_1, hostOps0_2, hostOps0_3, hostOps0_4, List.flatten_cons, List.flatten_nil, List.append_nil,
    List.cons_append, List.nil_append]
  after_results <;> rfl

set_option maxHeartbeats 1600000 in
/-- the values: transposed, with 128 columns of ones beside them. -/
theorem V_v14 : V m c main_v14 = (truncf .bf16 (concatenate S4x16640x256 2
      [⟨S4x16640x128, transpose S4x16640x128 [1, 0, 2] (argV m c) transposes_S16640x4x128_S4x16640x128_1_0_2⟩,
       ⟨S4x16640x128, broadcastInDim S4x16640x128 ![] bcast_S_S4x16640x128 (constant S_ .f32 0x3F800000#32)⟩]
      concatenates_S4x16640x128_S4x16640x128_S4x16640x256_d2) bitsLt_bf16_f32 : FVec Ideal S4x16640x256 .bf16) := by
  simp only [V, hostOps0, hostOps0_1, hostOps0_2, hostOps0_3, hostOps0_4, List.flatten_cons, List.flatten_nil, List.append_nil,
    List.cons_append, List.nil_append]
  after_results <;> rfl

end Cert.KernelIdeal.Flash

end
-- ==== Proof.Weights.lean ====
module

public import Idealize.ShloMosaic.PureOps.Ideal
public import Idealize.ShloMosaic.PureOps.Ideal.Laws

@[expose] public section

noncomputable section

/-! Softmax weights over the extended reals: sums of values of any kind weighted by powers of two of finite scores, how such a
    sum follows a change of the running maximum, and the quotient both programs end with. -/

namespace Cert.Softmax

open Idealize.ShloMosaic

/-- The sum of the first `n` values, each weighted by two to its score less `μ`. -/
def wsum (σ : ℕ → ℝ) (μ : ℝ) (w : ℕ → EReal) (n : ℕ) : EReal :=
  ∑ t ∈ Finset.range n, (((2 : ℝ) ^ (σ t - μ) : ℝ) : EReal) * w t

/-- The softmax weight of entry `t` among the first `n`, in base two. -/
def weight (σ : ℕ → ℝ) (n t : ℕ) : ℝ := (2 : ℝ) ^ σ t / ∑ u ∈ Finset.range n, (2 : ℝ) ^ σ u

/-- The values averaged with these weights. -/
def attend (σ : ℕ → ℝ) (w : ℕ → EReal) (n : ℕ) : EReal :=
  ∑ t ∈ Finset.range n, ((weight σ n t : ℝ) : EReal) * w t

theorem exp2_coe' (r : ℝ) : Ideal.exp2 (r : EReal) = (((2 : ℝ) ^ r : ℝ) : EReal) := rfl

/-- A real factor that is not negative distributes over any sum of extended reals. -/
theorem mul_sum_of_nonneg (a : ℝ) (ha : 0 ≤ a) (s : Finset ℕ) (f : ℕ → EReal) :
    (a : EReal) * ∑ t ∈ s, f t = ∑ t ∈ s, (a : EReal) * f t := by
  induction s using Finset.induction_on with
  | empty => simp
  | insert x s hx ih =>
    rw [Finset.sum_insert hx, Finset.sum_insert hx, ← ih,
      EReal.left_distrib_of_nonneg_of_ne_top (by exact_mod_cast ha) (EReal.coe_ne_top a)]

theorem mul_wsum (a : ℝ) (ha : 0 ≤ a) (σ : ℕ → ℝ) (μ : ℝ) (w : ℕ → EReal) (n : ℕ) :
    (a : EReal) * wsum σ μ w n = ∑ t ∈ Finset.range n, ((a * (2 : ℝ) ^ (σ t - μ) : ℝ) : EReal) * w t := by
  rw [wsum, mul_sum_of_nonneg a ha]
  exact Finset.sum_congr rfl fun t _ => by rw [← mul_assoc, ← EReal.coe_mul]

/-- Rescaled by two to the difference of two maxima, the sum is the one taken against the other maximum. -/
theorem rescale (σ : ℕ → ℝ) (μ μ' : ℝ) (w : ℕ → EReal) (n : ℕ) :
    (((2 : ℝ) ^ (μ - μ') : ℝ) : EReal) * wsum σ μ w n = wsum σ μ' w n := by
  rw [mul_wsum _ (by positivity), wsum]
  refine Finset.sum_congr rfl fun t _ => ?_
  rw [← Real.rpow_add (by norm_num : (0 : ℝ) < 2)]
  congr 3; ring

theorem wsum_zero (σ : ℕ → ℝ) (μ : ℝ) (w : ℕ → EReal) : wsum σ μ w 0 = 0 := by simp [wsum]

/-- The next `k` entries, added. -/
theorem wsum_add (σ : ℕ → ℝ) (μ : ℝ) (w : ℕ → EReal) (n k : ℕ) :
    wsum σ μ w (n + k) = wsum σ μ w n + ∑ i : Fin k, Ideal.exp2 ((σ (n + i) : EReal) - (μ : EReal)) * w (n + i) := by
  rw [wsum, Finset.sum_range_add, ← wsum, Finset.sum_range fun i => (((2 : ℝ) ^ (σ (n + i) - μ) : ℝ) : EReal) * w (n + i)]
  refine congrArg (wsum σ μ w n + ·) (Finset.sum_congr rfl fun i _ => ?_)
  rw [← EReal.coe_sub, exp2_coe']

theorem coe_sum (s : Finset ℕ) (f : ℕ → ℝ) : ((∑ t ∈ s, f t : ℝ) : EReal) = ∑ t ∈ s, (f t : EReal) := by
  induction s using Finset.induction_on with
  | empty => simp
  | insert x s hx ih => rw [Finset.sum_insert hx, Finset.sum_insert hx, EReal.coe_add, ih]

/-- With the value one everywhere the sum is that of the weights, a positive real. -/
theorem wsum_one (σ : ℕ → ℝ) (μ : ℝ) (n : ℕ) :
    wsum σ μ (fun _ => 1) n = ((∑ t ∈ Finset.range n, (2 : ℝ) ^ (σ t - μ) : ℝ) : EReal) := by
  rw [coe_sum, wsum]; exact Finset.sum_congr rfl fun t _ => mul_one _

theorem total_pos (σ : ℕ → ℝ) (μ : ℝ) (n : ℕ) (hn : 0 < n) : 0 < ∑ t ∈ Finset.range n, (2 : ℝ) ^ (σ t - μ) :=
  Finset.sum_pos (fun t _ => by positivity) ⟨0, Finset.mem_range.mpr hn⟩

theorem weight_shift (σ : ℕ → ℝ) (μ : ℝ) (n t : ℕ) :
    (2 : ℝ) ^ (σ t - μ) / ∑ u ∈ Finset.range n, (2 : ℝ) ^ (σ u - μ) = weight σ n t := by
  have e (u : ℕ) : (2 : ℝ) ^ (σ u - μ) = 2 ^ σ u * 2 ^ (-μ) := by rw [← Real.rpow_add (by norm_num)]; rfl
  have hp : (0 : ℝ) < 2 ^ (-μ) := by positivity
  simp only [e]
  rw [← Finset.sum_mul, mul_div_mul_right _ _ hp.ne', weight]

/-- The kernel's quotient: the weighted sum times the inverse of the weights' sum is the average. -/
theorem kernel_quotient (σ : ℕ → ℝ) (μ : ℝ) (w : ℕ → EReal) (n : ℕ) (hn : 0 < n) :
    wsum σ μ w n * Ideal.div 1 (wsum σ μ (fun _ => 1) n) = attend σ w n := by
  have hp := total_pos σ μ n hn
  rw [wsum_one, Ideal.div_coe hp.ne', one_mul, mul_comm, mul_wsum _ (by positivity), attend]
  refine Finset.sum_congr rfl fun t _ => ?_
  rw [← weight_shift σ μ n t, one_div, div_eq_inv_mul]

/-- The reference's weight: with natural exponentials of the scores times `log 2`. -/
theorem reference_weight (σ s : ℕ → ℝ) (hs : ∀ t, σ t = s t / Real.log 2) (m : ℝ) (n t : ℕ) (hn : 0 < n) :
    Ideal.div (Ideal.exp ((s t : EReal) - (m : EReal))) (0 + ∑ u : Fin n, Ideal.exp ((s u : EReal) - (m : EReal)))
      = ((weight σ n t : ℝ) : EReal) := by
  have hl : Real.log 2 ≠ 0 := (Real.log_pos (by norm_num)).ne'
  have e (u : ℕ) : Ideal.exp ((s u : EReal) - (m : EReal)) = (((2 : ℝ) ^ (σ u - m / Real.log 2) : ℝ) : EReal) := by
    rw [← EReal.coe_sub, Ideal.exp_coe, Real.rpow_def_of_pos (by norm_num), hs u, ← sub_div, mul_div_cancel₀ _ hl]
  simp only [e]
  rw [zero_add, ← Finset.sum_range fun u => (((2 : ℝ) ^ (σ u - m / Real.log 2) : ℝ) : EReal), ← coe_sum,
    Ideal.div_coe (total_pos σ _ n hn).ne', ← EReal.coe_mul, mul_one_div, weight_shift]

/-- The maximum of finitely many reals, one at least, is a real. -/
theorem fold_max_real {ι : Type*} (s : Finset ι) (hs : s.Nonempty) (f : ι → EReal) (hf : ∀ i, ∃ r : ℝ, f i = r) :
    ∃ r : ℝ, s.fold max ⊥ f = r := by
  classical
  induction hs using Finset.Nonempty.cons_induction with
  | singleton a => obtain ⟨r, hr⟩ := hf a; exact ⟨r, by simp [hr]⟩
  | cons a s ha hs ih =>
    obtain ⟨r, hr⟩ := hf a
    obtain ⟨q, hq⟩ := ih
    exact ⟨max r q, by rw [Finset.fold_cons, hr, hq]; exact (EReal.coe_strictMono.monotone.map_max).symm⟩

/-- A sum of products of reals is a real. -/
theorem sum_mul_real {ι : Type*} (s : Finset ι) (f g : ι → EReal) (hf : ∀ i, ∃ r : ℝ, f i = r) (hg : ∀ i, ∃ r : ℝ, g i = r) :
    ∃ r : ℝ, ∑ i ∈ s, f i * g i = r := by
  choose f' hf using hf
  choose g' hg using hg
  classical
  refine ⟨∑ i ∈ s, f' i * g' i, ?_⟩
  induction s using Finset.induction_on with
  | empty => simp
  | insert x s hx ih => rw [Finset.sum_insert hx, Finset.sum_insert hx, ih, hf, hg, EReal.coe_add, EReal.coe_mul]

end Cert.Softmax

end
-- ==== Proof.IdealBlock.lean ====
module

public import proofs.«01_k».proof.Proof.Spec
public import proofs.«01_k».proof.Proof.Weights
public import Idealize.ShloMosaic.Lib.Pipeline.Value
public import Idealize.ShloMosaic.Lib.ValueIdx

@[expose] public section

set_option maxRecDepth 16384

noncomputable section

/-! What one block of the attention call computes over the extended reals: with finite scores, `blockOut` is the average of the
    value rows with the softmax weights of the scores. -/

namespace Cert.KernelIdeal.Flash

open Cert.KernelIdeal Cert.KernelIdeal.Gen Cert.Softmax
open Idealize.ShloMosaic Idealize.ShloMosaic.ValueIdx

/-- A cast that drops the leading axis of size one, read at a row and a column, -/
theorem dropUnit_apply {a b : ℕ} {α : Type} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 0 i j) :=
  (shapeCast_dropUnit_apply ![a, b] v h (ix2 i j)).trans (congrArg v (funext fun x => by
    match x with
    | ⟨0, _⟩ => rfl
    | ⟨1, _⟩ => rfl
    | ⟨2, _⟩ => rfl))

/-- and one that adds it. -/
theorem addUnit_apply {a b : ℕ} {α : Type} (v : (⟨2, ![a, b]⟩ : Shape).Idx → α)
    (h : (⟨2, ![a, b]⟩ : Shape).ShapeCasts ⟨3, ![1, a, b]⟩) (i : Fin a) (j : Fin b) :
    shapeCast ⟨3, ![1, a, b]⟩ v h (ix3 0 i j) = v (ix2 i j) :=
  (shapeCast_addUnit_apply ![a, b] v h (ix3 0 i j)).trans (congrArg v (funext fun x => by
    match x with
    | ⟨0, _⟩ => rfl
    | ⟨1, _⟩ => rfl))

/-- The product of queries and keys at a row and a column. -/
theorem scores_apply (a : FVec Ideal S1024x256 .bf16) (b : FVec Ideal S3328x256 .bf16) (r : Fin 1024) (c : Fin 3328) :
    matmul dot_S1024x256_S3328x256_S1024x3328_1_1_0_0_n_n none a b (constant S1024x3328 .f32 0x00000000#32) (ix2 r c)
      = ∑ d : Fin 256, a (ix2 r d) * b (ix2 c d) := by
  simp only [matmul]
  rw [Ideal.matmul_constant_zero_apply,
    ← Equiv.sum_comp (contrEquiv1 dot_S1024x256_S3328x256_S1024x3328_1_1_0_0_n_n 256 rfl rfl).symm]
  refine Finset.sum_congr rfl fun k _ => ?_
  have hk := contrEquiv1_symm_val dot_S1024x256_S3328x256_S1024x3328_1_1_0_0_n_n 256 rfl rfl k
  congr 2
  · refine funext fun x => Fin.ext ?_
    match x with
    | ⟨0, _⟩ => rfl
    | ⟨1, _⟩ => exact (DotDims.lhsIdx_val_of_single _ rfl _ _).trans hk
  · refine funext fun x => Fin.ext ?_
    match x with
    | ⟨0, _⟩ => rfl
    | ⟨1, _⟩ => exact (DotDims.rhsIdx_val_of_single _ rfl _ _).trans hk

/-- The product of weights and values at a row and a column. -/
theorem values_apply (a : FVec Ideal S1024x256 .bf16) (b : FVec Ideal S256x256 .bf16) (r : Fin 1024) (c : Fin 256) :
    matmul dot_S1024x256_S256x256_S1024x256_1_0_0_1_n_n none a b (constant S1024x256 .f32 0x00000000#32) (ix2 r c)
      = ∑ k : Fin 256, a (ix2 r k) * b (ix2 k c) := by
  simp only [matmul]
  rw [Ideal.matmul_constant_zero_apply,
    ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  congr 2
  · refine funext fun x => Fin.ext ?_
    match x with
    | ⟨0, _⟩ => rfl
    | ⟨1, _⟩ => exact (DotDims.lhsIdx_val_of_single _ rfl _ _).trans hk
  · refine funext fun x => Fin.ext ?_
    match x with
    | ⟨0, _⟩ => exact (DotDims.rhsIdx_val_of_single _ rfl _ _).trans hk
    | ⟨1, _⟩ => rfl

/-- The score of query row `r` and key row `t`, -/
def qk (x0 : Vec Ideal S1x1024x256 .bf16) (x1 : Vec Ideal S1x16640x256 .bf16) (r : Fin 1024) (t : ℕ) : EReal :=
  ∑ d : Fin 256, x0 (ix3 (n0 := 1) 0 r d) * x1 (ix3 (n0 := 1) 0 (Fin.ofNat 16640 t) d)

/-- and column `c` of value row `t`. -/
def val (x2 : Vec Ideal S1x16640x256 .bf16) (c : Fin 256) (t : ℕ) : EReal := x2 (ix3 (n0 := 1) 0 (Fin.ofNat 16640 t) c)

variable (x0 : Vec Ideal S1x1024x256 .bf16) (x1 x2 : Vec Ideal S1x16640x256 .bf16)

theorem pay3_apply (j : ℕ) (r : Fin 1024) (c : Fin 3328) :
    k0_pay3 (F := Ideal) (k0_pay39 x0) (keysAt x1 (3328 * j)) (ix2 r c) = qk x0 x1 r (3328 * j + c.val) := by
  unfold k0_pay3 k0_pay39
  refine (scores_apply _ _ r c).trans (Finset.sum_congr rfl fun d _ => ?_)
  rw [dropUnit_apply, dropUnit_apply]
  rfl

/-- A chunk's scores. -/
theorem score_apply (j : ℕ) (r : Fin 1024) (c : Fin 3328) : score (F := Ideal) x0 x1 j (ix3 0 r c) = qk x0 x1 r (3328 * j + c.val) := by
  unfold score k0_pay4
  exact (addUnit_apply _ _ r c).trans (pay3_apply x0 x1 j r c)

/-- A chunk's row maximum is a real and the same in every lane. -/
theorem scoreMax_real (j : ℕ) (r : Fin 1024) (σ : ℕ → ℝ) (hσ : ∀ t, qk x0 x1 r t = σ t) :
    ∃ μ : ℝ, ∀ l : Fin 128, scoreMax (F := Ideal) x0 x1 j (ix3 0 r l) = μ := by
  have hf : ∀ k : Fin 3328, ∃ q : ℝ, k0_pay3 (F := Ideal) (k0_pay39 x0) (keysAt x1 (3328 * j)) (ix2 r k) = q :=
    fun k => ⟨_, (pay3_apply x0 x1 j r k).trans (hσ _)⟩
  obtain ⟨μ, hμ⟩ := fold_max_real (Finset.univ : Finset (Fin 3328)) ⟨0, Finset.mem_univ _⟩ _ hf
  refine ⟨μ, fun l => ?_⟩
  unfold scoreMax k0_pay5
  refine (addUnit_apply _ _ r l).trans ?_
  refine (broadcastTo_apply _ _ (ix2 r l) (ix2 (n0 := 1024) (n1 := 1) r 0) fun a => ?_).trans ?_
  · match a with
    | ⟨0, _⟩ => rfl
    | ⟨1, _⟩ => rfl
  rw [shapeCast_self]
  refine (shapeCast_apply _ _ (ix2 (n0 := 1024) (n1 := 1) r 0) (ix1 r) ?_).trans ?_
  · rw [Shape.rowMajor_val_one, Shape.rowMajor_val_two]; simp
  refine (Ideal.multiReduction_maximumf_single (s := S1024x3328) (t := S1024) _ _ reduces_S1024x3328_S1024 (.inl rfl) rfl (ix1 r)).trans (Eq.trans ?_ hμ)
  have hb : (FloatOps.ofBits .f32 (FKind.maximumf.neutral .f32 (.inl rfl)) : Ideal .f32) = (⊥ : EReal) := by
    show Ideal.ofBits .f32 0xFF800000#32 = ⊥
    simp [Ideal.ofBits, Ideal.ieee]
  rw [hb]
  refine congrArg (fun g => Finset.fold max ⊥ g Finset.univ) (funext fun k => ?_)
  refine congrArg (k0_pay3 (F := Ideal) (k0_pay39 x0) (keysAt x1 (3328 * j))) (funext fun a => Fin.ext ?_)
  match a with
  | ⟨0, _⟩ => rfl
  | ⟨1, _⟩ => rfl

/-- Two halves of 128 columns side by side, read on the left, -/
theorem halves_left {α : Type} (x y : S1024x128.Idx → α) (h : Shape.Concatenates [S1024x128, S1024x128] S1024x256 1) (r : Fin 1024)
    (k : Fin 256) (hk : k.val < 128) :
    concatenate S1024x256 1 [⟨S1024x128, x⟩, ⟨S1024x128, y⟩] h (ix2 r k) = x (ix2 r ⟨k.val, hk⟩) :=
  concatenate_pair_apply_left 1 x y h (ix2 r k) rfl (ix2 r ⟨k.val, hk⟩) fun b => by
    match b with
    | ⟨0, _⟩ => rfl
    | ⟨1, _⟩ => rfl

/-- and on the right. -/
theorem halves_right {α : Type} (x y : S1024x128.Idx → α) (h : Shape.Concatenates [S1024x128, S1024x128] S1024x256 1) (r : Fin 1024)
    (k : Fin 256) (hk : ¬ k.val < 128) (hk' : k.val - 128 < 128) :
    concatenate S1024x256 1 [⟨S1024x128, x⟩, ⟨S1024x128, y⟩] h (ix2 r k) = y (ix2 r ⟨k.val - 128, hk'⟩) :=
  concatenate_pair_apply_right 1 x y h (ix2 r k) rfl rfl (ix2 r ⟨k.val - 128, hk'⟩)
    (fun b hb => by
      match b with
      | ⟨0, _⟩ => rfl
      | ⟨1, _⟩ => exact absurd rfl hb)
    (by show k.val - 128 + 128 = k.val; omega)

/-- One step of a chunk adds its 256 weighted values. -/
theorem subStep_apply (m : FVec Ideal S1024x128 .f32) (a0 a1 : Vec Ideal S1x1024x128 .f32) (v : Vec Ideal S1x256x256 .bf16)
    (acc : FVec Ideal S1024x256 .f32) (r : Fin 1024) (c : Fin 256) (σ w : ℕ → EReal) (μ : EReal) (o : ℕ)
    (hm : ∀ l : Fin 128, m (ix2 r l) = μ) (h0 : ∀ l : Fin 128, a0 (ix3 0 r l) = σ (o + l.val))
    (h1 : ∀ l : Fin 128, a1 (ix3 0 r l) = σ (o + 128 + l.val)) (hv : ∀ k : Fin 256, v (ix3 0 k c) = w (o + k.val)) :
    subStep (F := Ideal) m a0 a1 v acc (ix2 r c) = acc (ix2 r c) + ∑ k : Fin 256, Ideal.exp2 (σ (o + k.val) - μ) * w (o + k.val) := by
  unfold subStep
  rw [addf_apply, values_apply]
  refine congrArg (acc (ix2 r c) + ·) (Finset.sum_congr rfl fun k _ => ?_)
  rw [dropUnit_apply, hv]
  refine congrArg (· * w (o + k.val)) ?_
  have key (a : Vec Ideal S1x1024x128 .f32) (l : Fin 128) (q : ℕ) (ha : a (ix3 0 r l) = σ q) :
      (truncf .bf16 (exp2 (subf (shapeCast S1024x128 a shapeCasts_S1x1024x128_S1024x128) m)) bitsLt_bf16_f32 : FVec Ideal S1024x128 .bf16) (ix2 r l)
        = Ideal.exp2 (σ q - μ) := by
    show Ideal.exp2 (shapeCast S1024x128 a shapeCasts_S1x1024x128_S1024x128 (ix2 r l) - m (ix2 r l)) = _
    rw [dropUnit_apply, ha, hm]
  by_cases hk : k.val < 128
  · exact (halves_left _ _ _ r k hk).trans (key a0 ⟨k.val, hk⟩ _ (h0 _))
  · have hk' : k.val - 128 < 128 := by omega
    exact (halves_right _ _ _ r k hk hk').trans
      ((key a1 ⟨k.val - 128, hk'⟩ _ (h1 _)).trans (by rw [show o + 128 + (k.val - 128) = o + k.val by omega]))

/-- The first `n` steps of chunk `j`. -/
theorem subSteps_apply (m : FVec Ideal S1024x128 .f32) (acc : FVec Ideal S1024x256 .f32) (j : ℕ) (r : Fin 1024) (c : Fin 256)
    (σ : ℕ → ℝ) (hσ : ∀ t, qk x0 x1 r t = σ t) (μ : ℝ) (hm : ∀ l : Fin 128, m (ix2 r l) = μ)
    (hacc : acc (ix2 r c) = wsum σ μ (val x2 c) (3328 * j)) (n : ℕ) (hn : n ≤ 13) :
    subSteps (F := Ideal) m (colsAt (score x0 x1 j)) (fun n => valsAt x2 (3328 * j + 256 * n)) acc n (ix2 r c)
      = wsum σ μ (val x2 c) (3328 * j + 256 * n) := by
  induction n with
  | zero => exact hacc
  | succ n ih =>
    rw [subSteps, show 3328 * j + 256 * (n + 1) = (3328 * j + 256 * n) + 256 by ring, wsum_add, ← ih (by omega)]
    have hcol (o : ℕ) (l : Fin 128) (ho : o + l.val < 3328) :
        colsAt (score (F := Ideal) x0 x1 j) o (ix3 0 r l) = (σ (3328 * j + (o + l.val)) : EReal) := by
      refine (score_apply x0 x1 j r (Fin.ofNat 3328 (o + l.val))).trans ?_
      rw [hσ, show (Fin.ofNat 3328 (o + l.val)).val = o + l.val from Nat.mod_eq_of_lt ho]
    refine subStep_apply _ _ _ _ _ r c (fun t => (σ t : EReal)) (val x2 c) μ (3328 * j + 256 * n) hm (fun l => ?_) (fun l => ?_) fun k => rfl
    · rw [hcol _ _ (by have := l.isLt; omega), ← Nat.add_assoc]
    · rw [hcol _ _ (by have := l.isLt; omega), show 3328 * j + (256 * n + 128 + l.val) = 3328 * j + 256 * n + 128 + l.val by omega]

theorem runMax_succ (j : ℕ) (i : S1024x128.Idx) :
    runMax (F := Ideal) x0 x1 (j + 1) i = newMax (runMax x0 x1 j) (scoreMax x0 x1 j) i := by
  rw [runMax]; unfold k0_pay7 newMax; rw [shapeCast_self]

theorem newMax_apply (mo : Vec Ideal S1024x128 .f32) (c : Vec Ideal S1x1024x128 .f32) (r : Fin 1024) (l : Fin 128) :
    newMax (F := Ideal) mo c (ix2 r l) = max (mo (ix2 r l)) (c (ix3 0 r l)) := by
  unfold newMax k0_pay6
  rw [maximumf_apply, dropUnit_apply]

/-- The factor the old sum is rescaled by. -/
theorem alpha_apply (mo : Vec Ideal S1024x128 .f32) (c : Vec Ideal S1x1024x128 .f32) (r : Fin 1024) (k : Fin 256) (a b : EReal)
    (ha : ∀ l : Fin 128, mo (ix2 r l) = a) (hb : ∀ l : Fin 128, newMax (F := Ideal) mo c (ix2 r l) = b) :
    k0_pay8 (F := Ideal) mo c (ix2 r k) = Ideal.exp2 (a - b) := by
  have key (l : Fin 128) : (exp2 (subf mo (k0_pay6 mo c)) : FVec Ideal S1024x128 .f32) (ix2 r l) = Ideal.exp2 (a - b) := by
    show Ideal.exp2 (mo (ix2 r l) - newMax (F := Ideal) mo c (ix2 r l)) = _
    rw [ha, hb]
  unfold k0_pay8
  by_cases hk : k.val < 128
  · exact (halves_left _ _ _ r k hk).trans (key _)
  · exact (halves_right _ _ _ r k hk (by omega)).trans (key _)

/-- One chunk, whatever the maximum and the sum before it, if the rescaled sum is the one against the new maximum. -/
theorem newSum_apply (mo : Vec Ideal S1024x128 .f32) (acc : Vec Ideal S1024x256 .f32) (j : ℕ) (r : Fin 1024) (c : Fin 256)
    (σ : ℕ → ℝ) (hσ : ∀ t, qk x0 x1 r t = σ t) (a : EReal) (μ : ℝ) (ha : ∀ l : Fin 128, mo (ix2 r l) = a)
    (hμ : ∀ l : Fin 128, newMax (F := Ideal) mo (scoreMax x0 x1 j) (ix2 r l) = μ)
    (hacc : Ideal.exp2 (a - μ) * acc (ix2 r c) = wsum σ μ (val x2 c) (3328 * j)) :
    newSum (F := Ideal) mo (scoreMax x0 x1 j) acc (colsAt (score x0 x1 j)) (fun n => valsAt x2 (3328 * j + 256 * n)) (ix2 r c)
      = wsum σ μ (val x2 c) (3328 * (j + 1)) := by
  unfold newSum
  rw [shapeCast_self]
  refine subSteps_apply x0 x1 x2 _ _ j r c σ hσ μ hμ ?_ 13 le_rfl
  rw [mulf_apply, alpha_apply mo _ r c a μ ha hμ, hacc]

theorem runMax_zero (i : S1024x128.Idx) : runMax (F := Ideal) x0 x1 0 i = (⊥ : EReal) := by
  rw [runMax]; unfold k0_pay37; rw [shapeCast_self]
  show Ideal.ofBits .f32 0xFF800000#32 = ⊥
  simp [Ideal.ofBits, Ideal.ieee]

theorem runSum_zero (i : S1024x256.Idx) : runSum (F := Ideal) x0 x1 x2 0 i = (0 : EReal) := by
  rw [runSum]; unfold k0_pay38; rw [shapeCast_self]
  exact Ideal.ofBits_zero_f32

/-- After every chunk the running maximum is a real and the running sum the weighted sum against it. -/
theorem run_apply (r : Fin 1024) (σ : ℕ → ℝ) (hσ : ∀ t, qk x0 x1 r t = σ t) (j : ℕ) :
    ∃ μ : ℝ, (∀ l : Fin 128, runMax (F := Ideal) x0 x1 (j + 1) (ix2 r l) = μ)
      ∧ ∀ c : Fin 256, runSum (F := Ideal) x0 x1 x2 (j + 1) (ix2 r c) = wsum σ μ (val x2 c) (3328 * (j + 1)) := by
  induction j with
  | zero =>
    obtain ⟨μ, hμ⟩ := scoreMax_real x0 x1 0 r σ hσ
    have hn : ∀ l : Fin 128, newMax (F := Ideal) (runMax x0 x1 0) (scoreMax x0 x1 0) (ix2 r l) = μ := fun l => by
      rw [newMax_apply, runMax_zero, hμ]; exact max_eq_right bot_le
    refine ⟨μ, fun l => (runMax_succ x0 x1 0 _).trans (hn l), fun c => ?_⟩
    rw [runSum]
    refine newSum_apply x0 x1 x2 _ _ 0 r c σ hσ ⊥ μ (fun l => runMax_zero x0 x1 _) hn ?_
    rw [runSum_zero, mul_zero, Nat.mul_zero, wsum_zero]
  | succ j ih =>
    obtain ⟨μ, hμ, hs⟩ := ih
    obtain ⟨ν, hν⟩ := scoreMax_real x0 x1 (j + 1) r σ hσ
    have hn : ∀ l : Fin 128, newMax (F := Ideal) (runMax x0 x1 (j + 1)) (scoreMax x0 x1 (j + 1)) (ix2 r l) = ((max μ ν : ℝ) : EReal) := fun l => by
      rw [newMax_apply, hμ, hν]; exact EReal.coe_strictMono.monotone.map_max.symm
    refine ⟨max μ ν, fun l => (runMax_succ x0 x1 (j + 1) _).trans (hn l), fun c => ?_⟩
    rw [runSum]
    refine newSum_apply x0 x1 x2 _ _ (j + 1) r c σ hσ μ (max μ ν) hμ hn ?_
    rw [hs, ← EReal.coe_sub, exp2_coe', rescale]

/-- The block: the values averaged with the softmax weights of the scores, where the right half of the values is one. -/
theorem blockOut_apply (r : Fin 1024) (c : Fin 128) (σ : ℕ → ℝ) (hσ : ∀ t, qk x0 x1 r t = σ t)
    (h1 : ∀ t, val x2 ⟨128 + c.val, by have := c.isLt; omega⟩ t = 1) :
    blockOut (F := Ideal) x0 x1 x2 (ix2 r c) = attend σ (val x2 ⟨c.val, by have := c.isLt; omega⟩) 16640 := by
  obtain ⟨μ, -, hs⟩ := run_apply x0 x1 x2 r σ hσ 4
  have e0 : (Fin.ofNat 256 c.val) = (⟨c.val, by have := c.isLt; omega⟩ : Fin 256) := Fin.ext (Nat.mod_eq_of_lt (by have := c.isLt; omega))
  have e1 : (Fin.ofNat 256 (128 + c.val)) = (⟨128 + c.val, by have := c.isLt; omega⟩ : Fin 256) :=
    Fin.ext (Nat.mod_eq_of_lt (by have := c.isLt; omega))
  have hone : (Scalar.ofBits .f32 0x3F800000#32 : Ideal .f32) = (1 : EReal) := by
    show Ideal.ofBits .f32 0x3F800000#32 = 1
    simp [Ideal.ofBits, Ideal.ieee, -EReal.coe_mul]; norm_num
  unfold blockOut k0_pay2
  show runSum (F := Ideal) x0 x1 x2 5 (ix2 r (Fin.ofNat 256 c.val))
      * Ideal.div (Scalar.ofBits .f32 0x3F800000#32 : Ideal .f32) (runSum (F := Ideal) x0 x1 x2 5 (ix2 r (Fin.ofNat 256 (128 + c.val)))) = _
  rw [e0, e1, hs, hs, hone, show val x2 ⟨128 + c.val, _⟩ = fun _ => 1 from funext h1]
  exact kernel_quotient σ μ _ 16640 (by norm_num)

end Cert.KernelIdeal.Flash

end
-- ==== Proof.Attention.lean ====
module

public import proofs.«01_k».proof.Proof.Weights
public import Idealize.ShloMosaic.Lib.ValueIdx
public import Idealize.ShloMosaic.PureOps.Ideal.Laws

@[expose] public section

noncomputable section

/-! The attention both programs compute, from real queries and keys and any values. -/

namespace Cert.Softmax

open Idealize.ShloMosaic

/-- The scaled score of query row `s` and key row `t` (taken modulo the number of keys) for head `h`. -/
def scaledScore (qr : Fin 16384 → Fin 4 → Fin 192 → ℝ) (kr : Fin 16640 → Fin 4 → Fin 192 → ℝ) (s : Fin 16384) (h : Fin 4) (t : ℕ) : ℝ :=
  (∑ d : Fin 192, qr s h d * kr (Fin.ofNat 16640 t) h d) * (Real.sqrt 192)⁻¹

/-- The attention's entry for query row `s`, head `h` and value column `c`. -/
def attention (qr : Fin 16384 → Fin 4 → Fin 192 → ℝ) (kr : Fin 16640 → Fin 4 → Fin 192 → ℝ) (v : Fin 16640 → Fin 4 → Fin 128 → EReal)
    (s : Fin 16384) (h : Fin 4) (c : Fin 128) : EReal :=
  attend (fun t => scaledScore qr kr s h t / Real.log 2) (fun t => v (Fin.ofNat 16640 t) h c) 16640

/-- A finite sum of products of reals, in the extended reals. -/
theorem coe_dot {n : ℕ} (f g : Fin n → ℝ) : ∑ d : Fin n, (f d : EReal) * (g d : EReal) = ((∑ d : Fin n, f d * g d : ℝ) : EReal) := by
  have h (s : Finset (Fin n)) : ((∑ d ∈ s, f d * g d : ℝ) : EReal) = ∑ d ∈ s, (f d : EReal) * (g d : EReal) := by
    induction s using Finset.induction_on with
    | empty => simp
    | insert x s hx ih => rw [Finset.sum_insert hx, Finset.sum_insert hx, EReal.coe_add, ih, EReal.coe_mul]
  exact (h Finset.univ).symm

theorem literal_192 : Ideal.ofBits .f32 0x43400000#32 = ((192 : ℝ) : EReal) := by
  simp [Ideal.ofBits, Ideal.ieee, -EReal.coe_mul]; norm_num

theorem literal_two : Ideal.ofBits .f32 0x40000000#32 = ((2 : ℝ) : EReal) := by
  simp [Ideal.ofBits, Ideal.ieee, -EReal.coe_mul]; norm_num

theorem literal_one : Ideal.ofBits .f32 0x3F800000#32 = (1 : EReal) := by
  have : Ideal.ofBits .f32 0x3F800000#32 = ((1 : ℝ) : EReal) := by
    simp [Ideal.ofBits, Ideal.ieee, -EReal.coe_mul, -EReal.coe_one]; norm_num
  exact this

/-- The scale the reference multiplies by, -/
theorem rsqrt_192 : Ideal.rsqrt (Ideal.ofBits .f32 0x43400000#32) = (((Real.sqrt 192)⁻¹ : ℝ) : EReal) := by
  rw [literal_192, Ideal.rsqrt_coe, if_neg (by norm_num), if_neg (by norm_num)]

/-- and the kernel's, which has the change to base two in it. -/
theorem scale_base_two : Ideal.div (Ideal.rsqrt (Ideal.ofBits .f32 0x43400000#32)) (Ideal.log (Ideal.ofBits .f32 0x40000000#32))
    = (((Real.sqrt 192)⁻¹ / Real.log 2 : ℝ) : EReal) := by
  rw [rsqrt_192, literal_two, Ideal.log_coe, if_neg (by norm_num), Ideal.div_coe (Real.log_pos (by norm_num)).ne', ← EReal.coe_mul]
  rw [← div_eq_mul_one_div]

end Cert.Softmax

end
-- ==== Proof.KernelValue.lean ====
module

public import proofs.«01_k».proof.Proof.Entry
public import proofs.«01_k».proof.Proof.IdealBlock
public import proofs.«01_k».proof.Proof.Body
public import proofs.«01_k».proof.Proof.Attention
public import Idealize.ShloMosaic.Lib.KernelVsHost

@[expose] public section

set_option maxRecDepth 16384

noncomputable section

/-! The kernel's value: the attention, when the queries and keys are real. -/

namespace Cert.KernelIdeal.Flash

open Cert.KernelIdeal Cert.KernelIdeal.Gen Cert.Softmax
open Idealize.ShloMosaic Idealize.ShloMosaic.TcCoe Idealize.SL.Sem

/-- A padded array is read inside at the operand, -/
theorem padded_inside {n : ℕ} (x : FVec Ideal ⟨3, ![4, n, 192]⟩ .f32) (v : FVec Ideal S_ .f32)
    (hp : (⟨3, ![4, n, 192]⟩ : Shape).Pads ![0, 0, 0] ![0, 0, 64] ![0, 0, 0] ⟨3, ![4, n, 256]⟩) (h : Fin 4) (s : Fin n) (d : Fin 192) :
    pad (⟨3, ![4, n, 256]⟩ : Shape) ![0, 0, 0] ![0, 0, 64] ![0, 0, 0] x v hp h_S_ (ValueIdx.ix3 h s (Fin.castAdd 64 d))
      = x (ValueIdx.ix3 h s d) :=
  pad_apply_of_inside _ _ _ _ _ _ _ _ _ fun a => by
    match a with
    | ⟨0, _⟩ => show h.val = 0 + h.val * 1; omega
    | ⟨1, _⟩ => show s.val = 0 + s.val * 1; omega
    | ⟨2, _⟩ => show d.val = 0 + d.val * 1; omega

/-- and outside at the padding value. -/
theorem padded_outside {n : ℕ} (x : FVec Ideal ⟨3, ![4, n, 192]⟩ .f32) (v : FVec Ideal S_ .f32)
    (hp : (⟨3, ![4, n, 192]⟩ : Shape).Pads ![0, 0, 0] ![0, 0, 64] ![0, 0, 0] ⟨3, ![4, n, 256]⟩) (h : Fin 4) (s : Fin n) (d : Fin 64) :
    pad (⟨3, ![4, n, 256]⟩ : Shape) ![0, 0, 0] ![0, 0, 64] ![0, 0, 0] x v hp h_S_ (ValueIdx.ix3 h s (Fin.natAdd 192 d))
      = v (Shape.Idx.first h_S_) :=
  pad_apply_of_not_inside _ _ _ _ _ _ _ _ (⟨2, by decide⟩ : Fin 3) fun e => by
    have e2 : (192 + d.val - 0) / 1 < 192 := e.2.2
    omega

/-- The two leading axes exchanged. -/
theorem swapped {n k : ℕ} (x : FVec Ideal ⟨3, ![n, 4, k]⟩ .f32)
    (ht : (⟨3, ![n, 4, k]⟩ : Shape).Transposes [1, 0, 2] ⟨3, ![4, n, k]⟩) (h : Fin 4) (s : Fin n) (d : Fin k) :
    transpose (⟨3, ![4, n, k]⟩ : Shape) [1, 0, 2] x ht (ValueIdx.ix3 h s d) = x (ValueIdx.ix3 s h d) :=
  transpose_apply _ _ _ _ _ fun a => by
    match a with
    | ⟨0, _⟩ => rfl
    | ⟨1, _⟩ => rfl
    | ⟨2, _⟩ => rfl

theorem padding_zero : (sitofp .f32 (constantI S_ 32 0#32) : FVec Ideal S_ .f32) (Shape.Idx.first h_S_) = (0 : EReal) := by
  show (((0#32 : BitVec 32).toInt : ℝ) : EReal) = 0
  simp

variable (m : (ℓ : Loc nD τ sig) → Buf (Elt Ideal) ℓ) (c : Dev nD)

theorem queries_inside (h : Fin 4) (s : Fin 16384) (d : Fin 192) :
    (V m c main_v7 : FVec Ideal S4x16384x256 .bf16) (ValueIdx.ix3 h s (Fin.castAdd 64 d))
      = argQ m c (ValueIdx.ix3 s h d) * (((Real.sqrt 192)⁻¹ / Real.log 2 : ℝ) : EReal) := by
  rw [V_v7, ← scale_base_two]
  have e := (padded_inside (transpose S4x16384x192 [1, 0, 2] (argQ m c) transposes_S16384x4x192_S4x16384x192_1_0_2)
    (sitofp .f32 (constantI S_ 32 0#32)) pads_S4x16384x192_S4x16384x256_000_000_0640 h s d).trans
    (swapped (argQ m c) transposes_S16384x4x192_S4x16384x192_1_0_2 h s d)
  exact congrArg (fun x : EReal => x * Ideal.div (Ideal.rsqrt (Ideal.ofBits .f32 0x43400000#32)) (Ideal.log (Ideal.ofBits .f32 0x40000000#32))) e

theorem queries_outside (h : Fin 4) (s : Fin 16384) (d : Fin 64) :
    (V m c main_v7 : FVec Ideal S4x16384x256 .bf16) (ValueIdx.ix3 h s (Fin.natAdd 192 d)) = (0 : EReal) := by
  rw [V_v7]
  have e := (padded_outside (transpose S4x16384x192 [1, 0, 2] (argQ m c) transposes_S16384x4x192_S4x16384x192_1_0_2)
    (sitofp .f32 (constantI S_ 32 0#32)) pads_S4x16384x192_S4x16384x256_000_000_0640 h s d).trans padding_zero
  exact (congrArg (fun x : EReal => x * Ideal.div (Ideal.rsqrt (Ideal.ofBits .f32 0x43400000#32)) (Ideal.log (Ideal.ofBits .f32 0x40000000#32))) e).trans
    (zero_mul _)

theorem keys_inside (h : Fin 4) (t : Fin 16640) (d : Fin 192) :
    (V m c main_v10 : FVec Ideal S4x16640x256 .bf16) (ValueIdx.ix3 h t (Fin.castAdd 64 d)) = argK m c (ValueIdx.ix3 t h d) := by
  rw [V_v10]
  exact (padded_inside (transpose S4x16640x192 [1, 0, 2] (argK m c) transposes_S16640x4x192_S4x16640x192_1_0_2)
    (sitofp .f32 (constantI S_ 32 0#32)) pads_S4x16640x192_S4x16640x256_000_000_0640 h t d).trans
    (swapped (argK m c) transposes_S16640x4x192_S4x16640x192_1_0_2 h t d)

/-- Two arrays side by side, read in the first -/
theorem beside_left (x y : FVec Ideal S4x16640x128 .f32) (h : Fin 4) (t : Fin 16640) (e : Fin 128) :
    concatenate S4x16640x256 2 [⟨S4x16640x128, x⟩, ⟨S4x16640x128, y⟩] concatenates_S4x16640x128_S4x16640x128_S4x16640x256_d2
      (ValueIdx.ix3 h t (Fin.castAdd 128 e)) = x (ValueIdx.ix3 h t e) :=
  concatenate_pair_apply_left 2 x y concatenates_S4x16640x128_S4x16640x128_S4x16640x256_d2 (ValueIdx.ix3 h t (Fin.castAdd 128 e)) rfl
    (ValueIdx.ix3 h t e) fun a => by
      match a with
      | ⟨0, _⟩ => rfl
      | ⟨1, _⟩ => rfl
      | ⟨2, _⟩ => rfl

/-- and in the second. -/
theorem beside_right (x y : FVec Ideal S4x16640x128 .f32) (h : Fin 4) (t : Fin 16640) (e : Fin 128) :
    concatenate S4x16640x256 2 [⟨S4x16640x128, x⟩, ⟨S4x16640x128, y⟩] concatenates_S4x16640x128_S4x16640x128_S4x16640x256_d2
      (ValueIdx.ix3 h t (Fin.natAdd 128 e)) = y (ValueIdx.ix3 h t e) :=
  concatenate_pair_apply_right 2 x y concatenates_S4x16640x128_S4x16640x128_S4x16640x256_d2 (ValueIdx.ix3 h t (Fin.natAdd 128 e)) rfl rfl
    (ValueIdx.ix3 h t e) (fun a ha => by
      match a with
      | ⟨0, _⟩ => rfl
      | ⟨1, _⟩ => rfl
      | ⟨2, _⟩ => exact absurd rfl ha) (Nat.add_comm e.val 128)

theorem values_left (h : Fin 4) (t : Fin 16640) (e : Fin 128) :
    (V m c main_v14 : FVec Ideal S4x16640x256 .bf16) (ValueIdx.ix3 h t (Fin.castAdd 128 e)) = argV m c (ValueIdx.ix3 t h e) := by
  rw [V_v14]
  exact (beside_left (transpose S4x16640x128 [1, 0, 2] (argV m c) transposes_S16640x4x128_S4x16640x128_1_0_2)
    (broadcastInDim S4x16640x128 ![] bcast_S_S4x16640x128 (constant S_ .f32 0x3F800000#32)) h t e).trans
    (swapped (argV m c) transposes_S16640x4x128_S4x16640x128_1_0_2 h t e)

theorem values_right (h : Fin 4) (t : Fin 16640) (e : Fin 128) :
    (V m c main_v14 : FVec Ideal S4x16640x256 .bf16) (ValueIdx.ix3 h t (Fin.natAdd 128 e)) = (1 : EReal) := by
  rw [V_v14]
  exact (beside_right (transpose S4x16640x128 [1, 0, 2] (argV m c) transposes_S16640x4x128_S4x16640x128_1_0_2)
    (broadcastInDim S4x16640x128 ![] bcast_S_S4x16640x128 (constant S_ .f32 0x3F800000#32)) h t e).trans literal_one

/-- A row of scores from queries that are real multiples of one real, with zeros after the first 192 columns. -/
theorem qk_real (x0 : FVec Ideal S1x1024x256 .bf16) (x1 : FVec Ideal S1x16640x256 .bf16) (r : Fin 1024) (u : ℕ) (a b : Fin 192 → ℝ) (κ : ℝ)
    (h0 : ∀ d : Fin 192, x0 (ValueIdx.ix3 (n0 := 1) 0 r (Fin.castAdd 64 d)) = (a d : EReal) * (κ : EReal))
    (z0 : ∀ d : Fin 64, x0 (ValueIdx.ix3 (n0 := 1) 0 r (Fin.natAdd 192 d)) = (0 : EReal))
    (h1 : ∀ d : Fin 192, x1 (ValueIdx.ix3 (n0 := 1) 0 (Fin.ofNat 16640 u) (Fin.castAdd 64 d)) = (b d : EReal)) :
    qk x0 x1 r u = (((∑ d : Fin 192, a d * b d) * κ : ℝ) : EReal) := by
  have f : ∑ d : Fin 192, x0 (ValueIdx.ix3 (n0 := 1) 0 r (Fin.castAdd 64 d)) * x1 (ValueIdx.ix3 (n0 := 1) 0 (Fin.ofNat 16640 u) (Fin.castAdd 64 d))
      = (((∑ d : Fin 192, a d * b d) * κ : ℝ) : EReal) := by
    have g (d : Fin 192) : x0 (ValueIdx.ix3 (n0 := 1) 0 r (Fin.castAdd 64 d)) * x1 (ValueIdx.ix3 (n0 := 1) 0 (Fin.ofNat 16640 u) (Fin.castAdd 64 d))
        = ((a d * κ : ℝ) : EReal) * (b d : EReal) := by
      rw [h0, h1, EReal.coe_mul]
    rw [Finset.sum_congr rfl fun d _ => g d, coe_dot, Finset.sum_mul]
    exact congrArg _ (Finset.sum_congr rfl fun d _ => by ring)
  have z : ∑ d : Fin 64, x0 (ValueIdx.ix3 (n0 := 1) 0 r (Fin.natAdd 192 d)) * x1 (ValueIdx.ix3 (n0 := 1) 0 (Fin.ofNat 16640 u) (Fin.natAdd 192 d))
      = (0 : EReal) := Finset.sum_eq_zero fun d _ => by rw [z0]; exact zero_mul _
  rw [qk]
  refine (Fin.sum_univ_add (a := 192) (b := 64) _).trans ?_
  exact (congrArg₂ (· + ·) f z).trans (add_zero _)

variable (qr : Fin 16384 → Fin 4 → Fin 192 → ℝ) (kr : Fin 16640 → Fin 4 → Fin 192 → ℝ)
  (hq : ∀ s h d, argQ m c (ValueIdx.ix3 s h d) = (qr s h d : EReal)) (hk : ∀ t h d, argK m c (ValueIdx.ix3 t h d) = (kr t h d : EReal))

include hq hk

/-- A block's scores are the scaled scores in base two. -/
theorem qk_iblk (t : Fin cfg0.N) (r : Fin 1024) (u : ℕ) :
    qk (iblk m c 0 t) (iblk m c 1 t) r u = ((scaledScore qr kr (rowOf t r) (headOf t) u / Real.log 2 : ℝ) : EReal) := by
  rw [qk_real (iblk m c 0 t) (iblk m c 1 t) r u (qr (rowOf t r) (headOf t)) (kr (Fin.ofNat 16640 u) (headOf t)) ((Real.sqrt 192)⁻¹ / Real.log 2)
    (fun d => (iblk0_apply m c t r _).trans ((queries_inside m c _ _ d).trans (congrArg (· * _) (hq _ _ d))))
    (fun d => (iblk0_apply m c t r _).trans (queries_outside m c _ _ d))
    (fun d => (iblk1_apply m c t _ _).trans ((keys_inside m c _ _ d).trans (hk _ _ d))), scaledScore, mul_div_assoc]

/-- A block of the result, at a row and a column. -/
theorem block_apply (t : Fin cfg0.N) (r : Fin 1024) (e : Fin 128) :
    blockOut (F := Ideal) (iblk m c 0 t) (iblk m c 1 t) (iblk m c 2 t) (ValueIdx.ix2 r e)
      = attention qr kr (fun t h e => argV m c (ValueIdx.ix3 t h e)) (rowOf t r) (headOf t) e := by
  rw [blockOut_apply (iblk m c 0 t) (iblk m c 1 t) (iblk m c 2 t) r e _ (qk_iblk m c qr kr hq hk t r)
    fun u => (iblk2_apply m c t (Fin.ofNat 16640 u) (Fin.natAdd 128 e)).trans (values_right m c (headOf t) (Fin.ofNat 16640 u) e)]
  rw [attention]
  exact congrArg (fun w => attend _ w 16640) (funext fun u =>
    (iblk2_apply m c t (Fin.ofNat 16640 u) (Fin.castAdd 128 e)).trans (values_left m c (headOf t) (Fin.ofNat 16640 u) e))

/-- What the kernel leaves in its result. -/
theorem final : (dats m 0 c).arrAt 3 cfg0.N = (fun i => attention qr kr (fun t h e => argV m c (ValueIdx.ix3 t h e))
    (i 0) ⟨(i 1).val / 128, by have : (i 1).val < 512 := (i 1).isLt; omega⟩ ⟨(i 1).val % 128, Nat.mod_lt _ (by decide)⟩
      : FVec Ideal S16384x512 .bf16) := by
  refine (dats m 0 c).arrAt_eq_of_covers 3 _ (by decide +kernel) fun t hf y => ?_
  blk_simp
  rw [after0_3]
  have hy0 : (y 0).val < 1024 := (y 0).isLt
  have hy1 : (y 1).val < 128 := (y 1).isLt
  have e := block_apply m c qr kr hq hk t ⟨(y 0).val, hy0⟩ ⟨(y 1).val, hy1⟩
  have ey : (y : S1024x128.Idx) = ValueIdx.ix2 (⟨(y 0).val, hy0⟩ : Fin 1024) (⟨(y 1).val, hy1⟩ : Fin 128) := by
    funext a; match a with | ⟨0, _⟩ => rfl | ⟨1, _⟩ => rfl
  refine (congrArg (blockOut (F := Ideal) (iblk m c 0 t) (iblk m c 1 t) (iblk m c 2 t)) ey).trans (e.trans ?_)
  have i1 : win0_3.index t 1 = t.val / 16 := congrFun (blockIndex t).2.2.2.1 1
  congr 1
  · apply Fin.ext
    blk_simp [blockIndex t]
    show 1024 * (t.val % 16) + (y 0).val = t.val % 16 * 1024 + (y 0).val
    omega
  · exact Fin.ext (show t.val / 16 = _ by simp only [i1]; omega)
  · exact Fin.ext (show (y 1).val = _ by simp only [i1]; omega)

end Cert.KernelIdeal.Flash

end
-- ==== Proof.RefValue.lean ====
module

public import proofs.«01_k».proof.Proof.Gen.ReferenceIdeal.Read
public import proofs.«01_k».proof.Proof.Attention

@[expose] public section

set_option maxRecDepth 16384

noncomputable section

/-! The reference's value: the attention, when the queries and keys are real. -/

namespace Cert.ReferenceIdeal.Read

open Cert.ReferenceIdeal Cert.ReferenceIdeal.Gen Cert.Softmax
open Idealize.ShloMosaic Idealize.ShloMosaic.ValueIdx

variable (x0 : FVec Ideal S16384x4x192 .f32) (x1 : FVec Ideal S16640x4x192 .f32) (x2 : FVec Ideal S16640x4x128 .f32)
  (qr : Fin 16384 → Fin 4 → Fin 192 → ℝ) (kr : Fin 16640 → Fin 4 → Fin 192 → ℝ)
  (hq : ∀ s h d, x0 (ix3 s h d) = (qr s h d : EReal)) (hk : ∀ t h d, x1 (ix3 t h d) = (kr t h d : EReal))

include hq hk

theorem scores_apply (h : Fin 4) (s : Fin 16384) (t : Fin 16640) :
    val_main_v3 (F := Ideal) x0 x1 (ix3 h s t) = ((scaledScore qr kr s h t.val : ℝ) : EReal) := by
  rw [val_main_v3_apply, val_main_v0_apply, val_main_v2_apply, val_main_v1_apply, val_main_cst_apply]
  show (_ : EReal) * Ideal.rsqrt (Ideal.ofBits .f32 0x43400000#32) = _
  rw [rsqrt_192, scaledScore, EReal.coe_mul, ← coe_dot]
  refine congrArg (· * _) (Finset.sum_congr rfl fun d _ => ?_)
  have e0 : lidx_main_v0 (ix3 h s t) d = ix3 s h d := by
    funext a; match a with | ⟨0, _⟩ => rfl | ⟨1, _⟩ => rfl | ⟨2, _⟩ => rfl
  have e1 : ridx_main_v0 (ix3 h s t) d = ix3 t h d := by
    funext a; match a with | ⟨0, _⟩ => rfl | ⟨1, _⟩ => rfl | ⟨2, _⟩ => rfl
  rw [e0, e1, hq, hk, show (Fin.ofNat 16640 t.val) = t from Fin.ext (Nat.mod_eq_of_lt t.isLt)]

/-- The row maximum the reference subtracts is real. -/
theorem max_real (h : Fin 4) (s : Fin 16384) : ∃ r : ℝ, val_main_v6 (F := Ideal) x0 x1 (ix2 h s) = (r : EReal) := by
  have hb : Ideal.ofBits .f32 0xFF800000#32 = ⊥ := by simp [Ideal.ofBits, Ideal.ieee]
  have hr : ∀ i, ∃ r : ℝ, val_main_v3 (F := Ideal) x0 x1 i = (r : EReal) := fun i =>
    by
    have e : i = ix3 (i 0) (i 1) (i 2) := funext fun a => by match a with | ⟨0, _⟩ => rfl | ⟨1, _⟩ => rfl | ⟨2, _⟩ => rfl
    exact ⟨_, (congrArg _ e).trans (scores_apply x0 x1 qr kr hq hk (i 0) (i 1) (i 2))⟩
  have h4 : ∃ r : ℝ, val_main_v4 (F := Ideal) x0 x1 (ix2 h s) = (r : EReal) := by
    have e : val_main_v4 (F := Ideal) x0 x1 (ix2 h s) = _ :=
      Host.reduce_eq_fold_single (FloatOps.maximumf (F := Ideal) (φ := .f32)) (val_main_v3 (F := Ideal) x0 x1) (val_main_cst_0 (F := Ideal))
        reducesTo_S4x16384x16640_S4x16384_d2 (by decide) h_S_ (ix2 h s)
    rw [e, val_main_cst_0_apply]
    show ∃ r : ℝ, Finset.fold max (Ideal.ofBits .f32 0xFF800000#32) _ _ = (r : EReal)
    rw [hb]
    exact fold_max_real _ ⟨⟨0, by decide⟩, Finset.mem_univ _⟩ _ fun i => hr _
  obtain ⟨r, hr⟩ := h4
  refine ⟨r, ?_⟩
  rw [val_main_v6_apply, val_main_v5_apply, val_main_cst_1_apply, hr]
  show max (Ideal.ofBits .f32 0xFF800000#32) (r : EReal) = r
  rw [hb]; simp

theorem probs_apply (h : Fin 4) (s : Fin 16384) (t : Fin 16640) :
    val_main_v14 (F := Ideal) x0 x1 (ix3 h s t) = ((weight (fun t => scaledScore qr kr s h t / Real.log 2) 16640 t.val : ℝ) : EReal) := by
  obtain ⟨μ, hμ⟩ := max_real x0 x1 qr kr hq hk h s
  have e10 (u : Fin 16640) : val_main_v10 (F := Ideal) x0 x1 (ix3 h s u) = Ideal.exp ((scaledScore qr kr s h u.val : EReal) - (μ : EReal)) := by
    rw [val_main_v10_apply, val_main_v9_apply, val_main_v8_apply, val_main_v7_apply, scores_apply x0 x1 qr kr hq hk]
    have e : val_main_v6 (F := Ideal) x0 x1 (idx_main_v7 (idx_main_v8 (ix3 h s u))) = (μ : EReal) := by
      rw [← hμ]; refine congrArg _ (funext fun a => ?_)
      match a with | ⟨0, _⟩ => rfl | ⟨1, _⟩ => rfl
    rw [e]; rfl
  have e13 : val_main_v13 (F := Ideal) x0 x1 (ix3 h s t) = 0 + ∑ u : Fin 16640, Ideal.exp ((scaledScore qr kr s h u.val : EReal) - (μ : EReal)) := by
    have hz : Ideal.ofBits .f32 0x00000000#32 = 0 := by simp [Ideal.ofBits, Ideal.ieee]
    rw [val_main_v13_apply, val_main_v12_apply, val_main_v11_apply, val_main_cst_2_apply]
    refine congrArg₂ (· + ·) hz (Finset.sum_congr rfl fun u _ => ?_)
    rw [← e10 u]; refine congrArg _ (funext fun a => ?_)
    match a with | ⟨0, _⟩ => rfl | ⟨1, _⟩ => rfl | ⟨2, _⟩ => rfl
  rw [val_main_v14_apply, e10, e13]
  exact reference_weight _ (fun t => scaledScore qr kr s h t) (fun _ => rfl) μ 16640 t.val (by norm_num)

/-- The reference's result at row `s`, head `h` and column `c` of the head. -/
theorem value_apply (s : Fin 16384) (h : Fin 4) (c : Fin 128) (j : Fin 512) (hj : j.val = 128 * h.val + c.val) :
    val_main_v18 (F := Ideal) x0 x1 x2 (ix2 s j) = attention qr kr (fun t h c => x2 (ix3 t h c)) s h c := by
  have hc := c.isLt; have hh := h.isLt
  rw [val_main_v18_apply, val_main_v17_apply, val_main_v16_apply]
  have e : idx_main_v16 (idx_main_v17 (ix2 s j)) = ix3 h c s := by
    funext a
    match a with
    | ⟨0, _⟩ => exact Fin.ext (show (s.val * 512 + j.val) / 128 % 4 = h.val by omega)
    | ⟨1, _⟩ => exact Fin.ext (show (s.val * 512 + j.val) % 128 = c.val by omega)
    | ⟨2, _⟩ => exact Fin.ext (show (s.val * 512 + j.val) / 512 = s.val by omega)
  rw [e, val_main_v15_apply, attention, attend, Finset.sum_range]
  refine Finset.sum_congr rfl fun t _ => ?_
  have e0 : lidx_main_v15 (ix3 h c s) t = ix3 t h c := by
    funext a; match a with | ⟨0, _⟩ => rfl | ⟨1, _⟩ => rfl | ⟨2, _⟩ => rfl
  have e1 : ridx_main_v15 (ix3 h c s) t = ix3 h s t := by
    funext a; match a with | ⟨0, _⟩ => rfl | ⟨1, _⟩ => rfl | ⟨2, _⟩ => rfl
  rw [e0, e1, probs_apply x0 x1 qr kr hq hk, show (Fin.ofNat 16640 t.val) = t from Fin.ext (Nat.mod_eq_of_lt t.isLt), mul_comm]

end Cert.ReferenceIdeal.Read

end
-- ==== Proof.ExpertsSame.lean ====
module

public import proofs.«01_k».proof.Proof.ExpertsBody
public import proofs.«01_k».proof.Defs
public import proofs.«01_k».proof.Proof.Gen.Kernel2
public import proofs.«01_k».proof.Proof.Gen.Kernel2Ideal
public import proofs.«01_k».proof.Proof.Gen.Pre_experts
public import Idealize.ShloMosaic.Lib.StableHlo.Predicate

@[expose] public section

set_option maxRecDepth 16384

noncomputable section

/-! The experts call printed for the bits and for the extended reals has the same text, and its precondition keeps the blocks inside the arrays. -/

namespace Cert.Same

open Idealize.ShloMosaic Idealize.ShloMosaic.TcCoe Idealize.SL.Sem

theorem expert_bodies_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) => rfl
  | ⟨_ + 1, h⟩, _ => exact absurd h (Nat.not_lt.2 (Nat.le_add_left _ _))

theorem expert_defs_eq : Cert.Kernel2.defs (F := Bits) = Cert.Kernel2Ideal.defs (F := Bits) :=
  congrArg (Pipeline.defs (Cert.Kernel2Ideal.pcfgs (F := Bits))) expert_bodies_eq

/-- A word the precondition admits is below 32. -/
theorem word_lt (e : BitVec 32) (h : IntOp.andi (IntOp.cmpi .sge e 0#32) (IntOp.cmpi .slt e 32#32) = 1#1) : e.toNat < 32 := by
  have hb : ∀ a b : BitVec 1, IntOp.andi a b = 1#1 → a = 1#1 ∧ b = 1#1 := by decide
  obtain ⟨h1, h2⟩ := hb _ _ h
  have h1' : 0 ≤ e.toInt := by
    have := (StableHlo.Predicate.ofBool_eq_one_iff _).mp h1
    simpa [BitVec.sle_eq_decide] using this
  have h2' : e.toInt < 32 := by
    have := (StableHlo.Predicate.ofBool_eq_one_iff _).mp h2
    simpa [BitVec.slt_eq_decide] using this
  rw [BitVec.toInt_eq_toNat_cond] at h1' h2'
  split at h1' <;> omega

theorem block_inside {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · exact h0
  · intro a; exact hr a

section
open Cert.Kernel2Ideal Cert.Kernel2Ideal.Gen Cert.Kernel2Ideal.Experts
variable {F : FTy → Type} [FloatOps F]

/-- Expert words below 32 keep every weight and bias block inside its array. -/
theorem ok_of_words (m : (ℓ : Loc nD τ sig) → Buf (Elt F) ℓ) (h : ∀ x : S162.Idx, (tabE m x : BitVec 32).toNat < 32) : Ok m := by
  refine ⟨fun i => ⟨?_, .inl rfl⟩, fun i => ⟨?_, .inl rfl⟩, fun i => ⟨?_, .inl rfl⟩, fun i => ⟨?_, .inl rfl⟩⟩
  all_goals
    refine block_inside (by decide) (block_inside ?_ (block_inside (by decide) (block_inside (by decide) fun a => a.elim0)))
    rw [Nat.mul_one]
    exact Nat.succ_le_of_lt (h _)
end

section
open Cert.Kernel2Ideal Cert.Kernel2Ideal.Experts

theorem words_of_fn {F : FTy → Type} [FloatOps F] (a : IVec S162 32) (n : IVec S1 32) (x : FVec F S82944x1024 .f32) (g : FVec F S82944x1 .f32)
    (w1 : FVec F S2x32x1024x2048 .f32) (b1 : FVec F S2x32x2048 .f32) (w2 : FVec F S2x32x1024x1024 .f32) (b2 : FVec F S2x32x1024 .f32)
    [Cert.Pre_experts.Facts] (h : Cert.Pre_experts.fn a n x g w1 b1 w2 b2 = fun _ => 1#1) (y : S162.Idx) : (a y).toNat < 32 :=
  word_lt (a y) (congrFun h y)
end

section
open Cert.Kernel2Ideal Cert.Kernel2Ideal.Experts

theorem ok_kernel2Ideal [Cert.Pre_experts.Facts] (m : (ℓ : Loc nD τ sig) → Buf (Elt Ideal) ℓ) (h : Cert.Pre_Kernel2Ideal m) : Ok m :=
  ok_of_words m fun y => words_of_fn _ _ _ _ _ _ _ _ (h 0) y

theorem ok_kernel2 [Cert.Pre_experts.Facts] (m : (ℓ : Loc nD τ sig) → Buf (Elt Bits) ℓ) (h : Cert.Pre_Kernel2 m) : Ok m :=
  ok_of_words m fun y => words_of_fn _ _ _ _ _ _ _ _ (h 0) y
end

set_option maxHeartbeats 4000000 in
/-- The experts call as printed at the bits has the text of the one printed at the ideal, so one run serves for both. -/
theorem frame_kernel2 : Cert.quiescent_Kernel2 := fun m ρ h => by
  rw [expert_defs_eq]
  exact Cert.Kernel2Ideal.Experts.frame_claim (F := Bits) m ρ (ok_kernel2 m h)

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Body
public import proofs.«01_k».proof.Proof.ExpertsAgree
public import proofs.«01_k».proof.Proof.Same
public import proofs.«01_k».proof.Proof.Finite
public import proofs.«01_k».proof.Proof.KernelValue
public import proofs.«01_k».proof.Proof.RefValue
public import proofs.«01_k».proof.Proof.ExpertsSame
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_experts
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The shape facts of the precondition. -/
instance preFacts : Cert.Pre_finite.Facts where
  concatenates_S16384x4x192_S16640x4x192_S33024x4x192_d0 := by decide
  bcast_S_S33024x4x192 := by decide

/-- The kernel as printed at the bits has the text of the one printed at the ideal, so one run serves for both. -/
theorem frame_kernel : Cert.quiescent_Kernel := fun m ρ _ => by
  rw [Cert.Same.defs_eq]
  exact Cert.KernelIdeal.Flash.frame_claim (F := Bits) m ρ

theorem frame_kernelIdeal : Cert.quiescent_KernelIdeal := fun m ρ _ => Cert.KernelIdeal.Flash.frame_claim (F := Ideal) m ρ

theorem frame_kernelIdeal_finite : Cert.quiescent_KernelIdeal_pre_finite := fun m ρ _ => Cert.KernelIdeal.Flash.frame_claim (F := Ideal) m ρ

theorem frame_referenceIdeal : Cert.quiescent_ReferenceIdeal := by
  intro m g _
  hlo_run
  · exact fun _ => ⟨trivial, trivial, trivial⟩
  · exact sem_eq_zero_of_no_sems (by decide) _

theorem frame_referenceIdeal_finite : Cert.quiescent_ReferenceIdeal_pre_finite := fun m ρ _ => frame_referenceIdeal m ρ (by trivial)

/-- The reference's value of the kernel's arguments is what the kernel leaves, when queries and keys are real. -/
theorem values_agree (m : (ℓ : Loc Cert.KernelIdeal.nD Cert.KernelIdeal.τ Cert.KernelIdeal.sig) → Buf (Elt Ideal) ℓ) (c : Dev Cert.KernelIdeal.nD)
    (hpre : Cert.Pre_KernelIdeal_finite m) :
    Cert.ReferenceIdeal.Read.val_main_v18 (F := Ideal) (Cert.KernelIdeal.Flash.argQ m c) (Cert.KernelIdeal.Flash.argK m c)
      (Cert.KernelIdeal.Flash.argV m c) = (Cert.KernelIdeal.Flash.dats m 0 c).arrAt 3 Cert.KernelIdeal.cfg0.N := by
  choose qr hq using Cert.Pre_finite.queries_real _ _ _ (hpre c)
  choose kr hk using Cert.Pre_finite.keys_real _ _ _ (hpre c)
  rw [Cert.KernelIdeal.Flash.final m c qr kr hq hk]
  funext i
  have hi : (i 1).val < 512 := (i 1).isLt
  have e : i = ValueIdx.ix2 (n0 := 16384) (n1 := 512) (i 0) (i 1) := ValueIdx.eq_ix2 i
  refine (congrArg (Cert.ReferenceIdeal.Read.val_main_v18 (F := Ideal) (Cert.KernelIdeal.Flash.argQ m c) (Cert.KernelIdeal.Flash.argK m c)
    (Cert.KernelIdeal.Flash.argV m c)) e).trans ?_
  exact Cert.ReferenceIdeal.Read.value_apply _ _ _ qr kr hq hk (i 0) ⟨(i 1).val / 128, by omega⟩ ⟨(i 1).val % 128, Nat.mod_lt _ (by decide)⟩ (i 1)
    (show (i 1).val = 128 * ((i 1).val / 128) + (i 1).val % 128 by omega)

/-- Both programs leave the attention of the queries, keys and values, when queries and keys are real. -/
theorem same_value : Cert.algebraic_KernelIdeal_ReferenceIdeal_pre_finite := by
  pair_intro
  · run_from Cert.KernelIdeal.Flash.run_main m g
    · exact Cert.KernelIdeal.Gen.V_main_arg0 m c
    · exact Cert.KernelIdeal.Gen.V_main_arg1 m c
    · exact Cert.KernelIdeal.Gen.V_main_arg2 m c
  · refine (θ_run _ _ _).mono (fun _ h c => ⟨(h c).1.trans ((Cert.ReferenceIdeal.Read.val_main_v18_eq (F := Ideal) _ _ _).trans ?_), (h c).2⟩)
      (Cert.ReferenceIdeal.Value.run m' g')
    rw [(hagree c).1, (hagree c).2.1, (hagree c).2.2]
    exact values_agree m c hpre

/-! ## The experts call -/

/-- At the extended reals the run of the experts call serves too. -/
theorem frame_kernel2Ideal : Cert.quiescent_Kernel2Ideal := fun m ρ h =>
  Cert.Kernel2Ideal.Experts.frame_claim (F := Ideal) m ρ (Cert.Same.ok_kernel2Ideal m h)

/-- The reference's frame, from its run. -/
theorem frame_reference2Ideal : Cert.quiescent_Reference2Ideal := fun m g _ =>
  (θ_run _ _ _).mono (fun _ h => ⟨fun c => (h c).2, sem_eq_zero_of_no_sems (by decide) _⟩) (Cert.Reference2Ideal.Value.run m g)

theorem frame_reference2Ideal_experts : Cert.quiescent_Reference2Ideal_pre_experts := fun m ρ _ => frame_reference2Ideal m ρ (by trivial)

/-- Both programs leave the experts' layer, when every block's expert is one of the thirty-two. -/
theorem same_value2 : Cert.algebraic_Kernel2Ideal_Reference2Ideal := by
  intro m g m' g' hpre hagree
  have hO := Cert.Same.ok_kernel2Ideal m hpre
  have hw : ∀ x, (Cert.Kernel2Ideal.Experts.tabE m x : BitVec 32).toNat < 32 :=
    fun x => Cert.Same.words_of_fn _ _ _ _ _ _ _ _ (hpre 0) x
  refine ⟨_, Cert.Kernel2Ideal.Experts.run_value m g hO, ?_⟩
  refine (θ_run _ _ _).mono (fun _ h c => ⟨(h c).1.trans ((Cert.Reference2Ideal.Read.val_main_v72_eq (F := Ideal) _ _).trans ?_), (h c).2⟩)
    (Cert.Reference2Ideal.Value.run m' g')
  obtain rfl : c = 0 := Subsingleton.elim c 0
  obtain ⟨h0, h1, h2, h3, h4, h5, h6, h7⟩ := hagree 0
  rw [h0, h1, h2, h3, h4, h5, h6, h7]
  exact Cert.Kernel2Ideal.Experts.values_agree m hO 0 hw

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, preFacts, Cert.Pre_experts.Gen.facts,
  frame_kernel, frame_kernelIdeal, frame_kernelIdeal_finite, frame_referenceIdeal, frame_referenceIdeal_finite,
  Cert.Same.frame_kernel2, frame_kernel2Ideal, frame_reference2Ideal, frame_reference2Ideal_experts, trivial, same_value, trivial, same_value2⟩

end Cert.Proof

end
